-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KMem (m : (ℓ : Loc Cert.KMem.nD Cert.KMem.τ Cert.KMem.sig) → Buf (Elt Bits) ℓ) : Prop :=
  True

def Pre_KMemIdeal (m : (ℓ : Loc Cert.KMemIdeal.nD Cert.KMemIdeal.τ Cert.KMemIdeal.sig) → Buf (Elt Ideal) ℓ) : Prop :=
  True

def Pre_RMemIdeal (m : (ℓ : Loc Cert.RMemIdeal.nD Cert.RMemIdeal.τ Cert.RMemIdeal.sig) → Buf (Elt Ideal) ℓ) : Prop :=
  True

def Pre_KExp (m : (ℓ : Loc Cert.KExp.nD Cert.KExp.τ Cert.KExp.sig) → Buf (Elt Bits) ℓ) : Prop :=
  True

def Pre_KExpIdeal (m : (ℓ : Loc Cert.KExpIdeal.nD Cert.KExpIdeal.τ Cert.KExpIdeal.sig) → Buf (Elt Ideal) ℓ) : Prop :=
  True

def Pre_RExpIdeal (m : (ℓ : Loc Cert.RExpIdeal.nD Cert.RExpIdeal.τ Cert.RExpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3))
      ∧ r.2.sem = fun _ => 0)

def quiescent_KMem [hKMem : Cert.KMem.Facts] : Prop :=
  ∀ (m : (ℓ : Loc Cert.KMem.nD Cert.KMem.τ Cert.KMem.sig) → Buf (Elt Bits) ℓ) (g : Dev Cert.KMem.nD → PrngReg), Pre_KMem m →
    θ_run (Cert.KMem.defs (F := Bits)) (onTc (τ := Cert.KMem.τ) (Cert.KMem.main (F := Bits))) ⟨m, fun _ => 0, g⟩ (fun r => (∀ c : Dev Cert.KMem.nD,
      r.2.mem ((c.tc : Thread Cert.KMem.nD Cert.KMem.τ).loc Cert.KMem.main_arg0) = m ((c.tc : Thread Cert.KMem.nD Cert.KMem.τ).loc Cert.KMem.main_arg0)
      ∧ r.2.mem ((c.tc : Thread Cert.KMem.nD Cert.KMem.τ).loc Cert.KMem.main_arg1) = m ((c.tc : Thread Cert.KMem.nD Cert.KMem.τ).loc Cert.KMem.main_arg1)
      ∧ r.2.mem ((c.tc : Thread Cert.KMem.nD Cert.KMem.τ).loc Cert.KMem.main_arg2) = m ((c.tc : Thread Cert.KMem.nD Cert.KMem.τ).loc Cert.KMem.main_arg2))
      ∧ r.2.sem = fun _ => 0)

def quiescent_KMemIdeal [hKMemIdeal : Cert.KMemIdeal.Facts] : Prop :=
  ∀ (m : (ℓ : Loc Cert.KMemIdeal.nD Cert.KMemIdeal.τ Cert.KMemIdeal.sig) → Buf (Elt Ideal) ℓ) (g : Dev Cert.KMemIdeal.nD → PrngReg), Pre_KMemIdeal m →
    θ_run (Cert.KMemIdeal.defs (F := Ideal)) (onTc (τ := Cert.KMemIdeal.τ) (Cert.KMemIdeal.main (F := Ideal))) ⟨m, fun _ => 0, g⟩ (fun r => (∀ c : Dev Cert.KMemIdeal.nD,
      r.2.mem ((c.tc : Thread Cert.KMemIdeal.nD Cert.KMemIdeal.τ).loc Cert.KMemIdeal.main_arg0) = m ((c.tc : Thread Cert.KMemIdeal.nD Cert.KMemIdeal.τ).loc Cert.KMemIdeal.main_arg0)
      ∧ r.2.mem ((c.tc : Thread Cert.KMemIdeal.nD Cert.KMemIdeal.τ).loc Cert.KMemIdeal.main_arg1) = m ((c.tc : Thread Cert.KMemIdeal.nD Cert.KMemIdeal.τ).loc Cert.KMemIdeal.main_arg1)
      ∧ r.2.mem ((c.tc : Thread Cert.KMemIdeal.nD Cert.KMemIdeal.τ).loc Cert.KMemIdeal.main_arg2) = m ((c.tc : Thread Cert.KMemIdeal.nD Cert.KMemIdeal.τ).loc Cert.KMemIdeal.main_arg2))
      ∧ r.2.sem = fun _ => 0)

def quiescent_RMemIdeal [hRMemIdeal : Cert.RMemIdeal.Facts] : Prop :=
  ∀ (m : (ℓ : Loc Cert.RMemIdeal.nD Cert.RMemIdeal.τ Cert.RMemIdeal.sig) → Buf (Elt Ideal) ℓ) (g : Dev Cert.RMemIdeal.nD → PrngReg), Pre_RMemIdeal m →
    θ_run (Cert.RMemIdeal.defs (F := Ideal)) (onTc (τ := Cert.RMemIdeal.τ) (Cert.RMemIdeal.main (F := Ideal))) ⟨m, fun _ => 0, g⟩ (fun r => (∀ c : Dev Cert.RMemIdeal.nD,
      r.2.mem ((c.tc : Thread Cert.RMemIdeal.nD Cert.RMemIdeal.τ).loc Cert.RMemIdeal.main_arg0) = m ((c.tc : Thread Cert.RMemIdeal.nD Cert.RMemIdeal.τ).loc Cert.RMemIdeal.main_arg0)
      ∧ r.2.mem ((c.tc : Thread Cert.RMemIdeal.nD Cert.RMemIdeal.τ).loc Cert.RMemIdeal.main_arg1) = m ((c.tc : Thread Cert.RMemIdeal.nD Cert.RMemIdeal.τ).loc Cert.RMemIdeal.main_arg1)
      ∧ r.2.mem ((c.tc : Thread Cert.RMemIdeal.nD Cert.RMemIdeal.τ).loc Cert.RMemIdeal.main_arg2) = m ((c.tc : Thread Cert.RMemIdeal.nD Cert.RMemIdeal.τ).loc Cert.RMemIdeal.main_arg2))
      ∧ r.2.sem = fun _ => 0)

def quiescent_KExp [hKExp : Cert.KExp.Facts] : Prop :=
  ∀ (m : (ℓ : Loc Cert.KExp.nD Cert.KExp.τ Cert.KExp.sig) → Buf (Elt Bits) ℓ) (g : Dev Cert.KExp.nD → PrngReg), Pre_KExp m →
    θ_run (Cert.KExp.defs (F := Bits)) (onTc (τ := Cert.KExp.τ) (Cert.KExp.main (F := Bits))) ⟨m, fun _ => 0, g⟩ (fun r => (∀ c : Dev Cert.KExp.nD,
      r.2.mem ((c.tc : Thread Cert.KExp.nD Cert.KExp.τ).loc Cert.KExp.main_arg0) = m ((c.tc : Thread Cert.KExp.nD Cert.KExp.τ).loc Cert.KExp.main_arg0)
      ∧ r.2.mem ((c.tc : Thread Cert.KExp.nD Cert.KExp.τ).loc Cert.KExp.main_arg1) = m ((c.tc : Thread Cert.KExp.nD Cert.KExp.τ).loc Cert.KExp.main_arg1)
      ∧ r.2.mem ((c.tc : Thread Cert.KExp.nD Cert.KExp.τ).loc Cert.KExp.main_arg2) = m ((c.tc : Thread Cert.KExp.nD Cert.KExp.τ).loc Cert.KExp.main_arg2)
      ∧ r.2.mem ((c.tc : Thread Cert.KExp.nD Cert.KExp.τ).loc Cert.KExp.main_arg3) = m ((c.tc : Thread Cert.KExp.nD Cert.KExp.τ).loc Cert.KExp.main_arg3)
      ∧ r.2.mem ((c.tc : Thread Cert.KExp.nD Cert.KExp.τ).loc Cert.KExp.main_arg4) = m ((c.tc : Thread Cert.KExp.nD Cert.KExp.τ).loc Cert.KExp.main_arg4)
      ∧ r.2.mem ((c.tc : Thread Cert.KExp.nD Cert.KExp.τ).loc Cert.KExp.main_arg5) = m ((c.tc : Thread Cert.KExp.nD Cert.KExp.τ).loc Cert.KExp.main_arg5))
      ∧ r.2.sem = fun _ => 0)

def quiescent_KExpIdeal [hKExpIdeal : Cert.KExpIdeal.Facts] : Prop :=
  ∀ (m : (ℓ : Loc Cert.KExpIdeal.nD Cert.KExpIdeal.τ Cert.KExpIdeal.sig) → Buf (Elt Ideal) ℓ) (g : Dev Cert.KExpIdeal.nD → PrngReg), Pre_KExpIdeal m →
    θ_run (Cert.KExpIdeal.defs (F := Ideal)) (onTc (τ := Cert.KExpIdeal.τ) (Cert.KExpIdeal.main (F := Ideal))) ⟨m, fun _ => 0, g⟩ (fun r => (∀ c : Dev Cert.KExpIdeal.nD,
      r.2.mem ((c.tc : Thread Cert.KExpIdeal.nD Cert.KExpIdeal.τ).loc Cert.KExpIdeal.main_arg0) = m ((c.tc : Thread Cert.KExpIdeal.nD Cert.KExpIdeal.τ).loc Cert.KExpIdeal.main_arg0)
      ∧ r.2.mem ((c.tc : Thread Cert.KExpIdeal.nD Cert.KExpIdeal.τ).loc Cert.KExpIdeal.main_arg1) = m ((c.tc : Thread Cert.KExpIdeal.nD Cert.KExpIdeal.τ).loc Cert.KExpIdeal.main_arg1)
      ∧ r.2.mem ((c.tc : Thread Cert.KExpIdeal.nD Cert.KExpIdeal.τ).loc Cert.KExpIdeal.main_arg2) = m ((c.tc : Thread Cert.KExpIdeal.nD Cert.KExpIdeal.τ).loc Cert.KExpIdeal.main_arg2)
      ∧ r.2.mem ((c.tc : Thread Cert.KExpIdeal.nD Cert.KExpIdeal.τ).loc Cert.KExpIdeal.main_arg3) = m ((c.tc : Thread Cert.KExpIdeal.nD Cert.KExpIdeal.τ).loc Cert.KExpIdeal.main_arg3)
      ∧ r.2.mem ((c.tc : Thread Cert.KExpIdeal.nD Cert.KExpIdeal.τ).loc Cert.KExpIdeal.main_arg4) = m ((c.tc : Thread Cert.KExpIdeal.nD Cert.KExpIdeal.τ).loc Cert.KExpIdeal.main_arg4)
      ∧ r.2.mem ((c.tc : Thread Cert.KExpIdeal.nD Cert.KExpIdeal.τ).loc Cert.KExpIdeal.main_arg5) = m ((c.tc : Thread Cert.KExpIdeal.nD Cert.KExpIdeal.τ).loc Cert.KExpIdeal.main_arg5))
      ∧ r.2.sem = fun _ => 0)

def quiescent_RExpIdeal [hRExpIdeal : Cert.RExpIdeal.Facts] : Prop :=
  ∀ (m : (ℓ : Loc Cert.RExpIdeal.nD Cert.RExpIdeal.τ Cert.RExpIdeal.sig) → Buf (Elt Ideal) ℓ) (g : Dev Cert.RExpIdeal.nD → PrngReg), Pre_RExpIdeal m →
    θ_run (Cert.RExpIdeal.defs (F := Ideal)) (onTc (τ := Cert.RExpIdeal.τ) (Cert.RExpIdeal.main (F := Ideal))) ⟨m, fun _ => 0, g⟩ (fun r => (∀ c : Dev Cert.RExpIdeal.nD,
      r.2.mem ((c.tc : Thread Cert.RExpIdeal.nD Cert.RExpIdeal.τ).loc Cert.RExpIdeal.main_arg0) = m ((c.tc : Thread Cert.RExpIdeal.nD Cert.RExpIdeal.τ).loc Cert.RExpIdeal.main_arg0)
      ∧ r.2.mem ((c.tc : Thread Cert.RExpIdeal.nD Cert.RExpIdeal.τ).loc Cert.RExpIdeal.main_arg1) = m ((c.tc : Thread Cert.RExpIdeal.nD Cert.RExpIdeal.τ).loc Cert.RExpIdeal.main_arg1)
      ∧ r.2.mem ((c.tc : Thread Cert.RExpIdeal.nD Cert.RExpIdeal.τ).loc Cert.RExpIdeal.main_arg2) = m ((c.tc : Thread Cert.RExpIdeal.nD Cert.RExpIdeal.τ).loc Cert.RExpIdeal.main_arg2)
      ∧ r.2.mem ((c.tc : Thread Cert.RExpIdeal.nD Cert.RExpIdeal.τ).loc Cert.RExpIdeal.main_arg3) = m ((c.tc : Thread Cert.RExpIdeal.nD Cert.RExpIdeal.τ).loc Cert.RExpIdeal.main_arg3)
      ∧ r.2.mem ((c.tc : Thread Cert.RExpIdeal.nD Cert.RExpIdeal.τ).loc Cert.RExpIdeal.main_arg4) = m ((c.tc : Thread Cert.RExpIdeal.nD Cert.RExpIdeal.τ).loc Cert.RExpIdeal.main_arg4)
      ∧ r.2.mem ((c.tc : Thread Cert.RExpIdeal.nD Cert.RExpIdeal.τ).loc Cert.RExpIdeal.main_arg5) = m ((c.tc : Thread Cert.RExpIdeal.nD Cert.RExpIdeal.τ).loc Cert.RExpIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)
      ∧ m' ((c.tc : Thread Cert.RProjIdeal.nD Cert.RProjIdeal.τ).loc Cert.RProjIdeal.main_arg3) = m ((c.tc : Thread Cert.KProjIdeal.nD Cert.KProjIdeal.τ).loc Cert.KProjIdeal.main_arg3)) →
    ∃ (v0 : (c : Dev Cert.KProjIdeal.nD) → Buf (Elt Ideal) ((c.tc : Thread Cert.KProjIdeal.nD Cert.KProjIdeal.τ).loc Cert.KProjIdeal.main_v20_0)) (v1 : (c : Dev Cert.KProjIdeal.nD) → Buf (Elt Ideal) ((c.tc : Thread Cert.KProjIdeal.nD Cert.KProjIdeal.τ).loc Cert.KProjIdeal.main_v20_1)) (v2 : (c : Dev Cert.KProjIdeal.nD) → Buf (Elt Ideal) ((c.tc : Thread Cert.KProjIdeal.nD Cert.KProjIdeal.τ).loc Cert.KProjIdeal.main_v20_2)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v20_0) = v0 c
          ∧ r.2.mem ((c.tc : Thread Cert.KProjIdeal.nD Cert.KProjIdeal.τ).loc Cert.KProjIdeal.main_v20_1) = v1 c
          ∧ r.2.mem ((c.tc : Thread Cert.KProjIdeal.nD Cert.KProjIdeal.τ).loc Cert.KProjIdeal.main_v20_2) = v2 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v40) = v0 c
          ∧ r.2.mem ((c.tc : Thread Cert.RProjIdeal.nD Cert.RProjIdeal.τ).loc Cert.RProjIdeal.main_v42) = v1 c
          ∧ r.2.mem ((c.tc : Thread Cert.RProjIdeal.nD Cert.RProjIdeal.τ).loc Cert.RProjIdeal.main_v44) = v2 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m' ((c.tc : Thread Cert.RProjIdeal.nD Cert.RProjIdeal.τ).loc Cert.RProjIdeal.main_arg3))

def preserves_KMem_KMemIdeal : Prop :=
  True

def algebraic_KMemIdeal_RMemIdeal [hKMemIdeal : Cert.KMemIdeal.Facts] [hRMemIdeal : Cert.RMemIdeal.Facts] : Prop :=
  ∀ (m : (ℓ : Loc Cert.KMemIdeal.nD Cert.KMemIdeal.τ Cert.KMemIdeal.sig) → Buf (Elt Ideal) ℓ) (g : Dev Cert.KMemIdeal.nD → PrngReg)
    (m' : (ℓ : Loc Cert.RMemIdeal.nD Cert.RMemIdeal.τ Cert.RMemIdeal.sig) → Buf (Elt Ideal) ℓ) (g' : Dev Cert.RMemIdeal.nD → PrngReg), Pre_KMemIdeal m →
    (∀ c : Dev Cert.KMemIdeal.nD,
      m' ((c.tc : Thread Cert.RMemIdeal.nD Cert.RMemIdeal.τ).loc Cert.RMemIdeal.main_arg0) = m ((c.tc : Thread Cert.KMemIdeal.nD Cert.KMemIdeal.τ).loc Cert.KMemIdeal.main_arg0)
      ∧ m' ((c.tc : Thread Cert.RMemIdeal.nD Cert.RMemIdeal.τ).loc Cert.RMemIdeal.main_arg1) = m ((c.tc : Thread Cert.KMemIdeal.nD Cert.KMemIdeal.τ).loc Cert.KMemIdeal.main_arg1)
      ∧ m' ((c.tc : Thread Cert.RMemIdeal.nD Cert.RMemIdeal.τ).loc Cert.RMemIdeal.main_arg2) = m ((c.tc : Thread Cert.KMemIdeal.nD Cert.KMemIdeal.τ).loc Cert.KMemIdeal.main_arg2)) →
    ∃ (v0 : (c : Dev Cert.KMemIdeal.nD) → Buf (Elt Ideal) ((c.tc : Thread Cert.KMemIdeal.nD Cert.KMemIdeal.τ).loc Cert.KMemIdeal.main_v5_0)) (v1 : (c : Dev Cert.KMemIdeal.nD) → Buf (Elt Ideal) ((c.tc : Thread Cert.KMemIdeal.nD Cert.KMemIdeal.τ).loc Cert.KMemIdeal.main_v5_1)),
      θ_run (Cert.KMemIdeal.defs (F := Ideal)) (onTc (τ := Cert.KMemIdeal.τ) (Cert.KMemIdeal.main (F := Ideal))) ⟨m, fun _ => 0, g⟩ (fun r => ∀ c : Dev Cert.KMemIdeal.nD,
          r.2.mem ((c.tc : Thread Cert.KMemIdeal.nD Cert.KMemIdeal.τ).loc Cert.KMemIdeal.main_v5_0) = v0 c
          ∧ r.2.mem ((c.tc : Thread Cert.KMemIdeal.nD Cert.KMemIdeal.τ).loc Cert.KMemIdeal.main_v5_1) = v1 c
          ∧ r.2.mem ((c.tc : Thread Cert.KMemIdeal.nD Cert.KMemIdeal.τ).loc Cert.KMemIdeal.main_arg0) = m ((c.tc : Thread Cert.KMemIdeal.nD Cert.KMemIdeal.τ).loc Cert.KMemIdeal.main_arg0)
          ∧ r.2.mem ((c.tc : Thread Cert.KMemIdeal.nD Cert.KMemIdeal.τ).loc Cert.KMemIdeal.main_arg1) = m ((c.tc : Thread Cert.KMemIdeal.nD Cert.KMemIdeal.τ).loc Cert.KMemIdeal.main_arg1)
          ∧ r.2.mem ((c.tc : Thread Cert.KMemIdeal.nD Cert.KMemIdeal.τ).loc Cert.KMemIdeal.main_arg2) = m ((c.tc : Thread Cert.KMemIdeal.nD Cert.KMemIdeal.τ).loc Cert.KMemIdeal.main_arg2))
      ∧ θ_run (Cert.RMemIdeal.defs (F := Ideal)) (onTc (τ := Cert.RMemIdeal.τ) (Cert.RMemIdeal.main (F := Ideal))) ⟨m', fun _ => 0, g'⟩ (fun r => ∀ c : Dev Cert.RMemIdeal.nD,
          r.2.mem ((c.tc : Thread Cert.RMemIdeal.nD Cert.RMemIdeal.τ).loc Cert.RMemIdeal.main_v3) = v0 c
          ∧ r.2.mem ((c.tc : Thread Cert.RMemIdeal.nD Cert.RMemIdeal.τ).loc Cert.RMemIdeal.main_v7) = v1 c
          ∧ r.2.mem ((c.tc : Thread Cert.RMemIdeal.nD Cert.RMemIdeal.τ).loc Cert.RMemIdeal.main_arg0) = m' ((c.tc : Thread Cert.RMemIdeal.nD Cert.RMemIdeal.τ).loc Cert.RMemIdeal.main_arg0)
          ∧ r.2.mem ((c.tc : Thread Cert.RMemIdeal.nD Cert.RMemIdeal.τ).loc Cert.RMemIdeal.main_arg1) = m' ((c.tc : Thread Cert.RMemIdeal.nD Cert.RMemIdeal.τ).loc Cert.RMemIdeal.main_arg1)
          ∧ r.2.mem ((c.tc : Thread Cert.RMemIdeal.nD Cert.RMemIdeal.τ).loc Cert.RMemIdeal.main_arg2) = m' ((c.tc : Thread Cert.RMemIdeal.nD Cert.RMemIdeal.τ).loc Cert.RMemIdeal.main_arg2))

def preserves_KExp_KExpIdeal : Prop :=
  True

def algebraic_KExpIdeal_RExpIdeal [hKExpIdeal : Cert.KExpIdeal.Facts] [hRExpIdeal : Cert.RExpIdeal.Facts] : Prop :=
  ∀ (m : (ℓ : Loc Cert.KExpIdeal.nD Cert.KExpIdeal.τ Cert.KExpIdeal.sig) → Buf (Elt Ideal) ℓ) (g : Dev Cert.KExpIdeal.nD → PrngReg)
    (m' : (ℓ : Loc Cert.RExpIdeal.nD Cert.RExpIdeal.τ Cert.RExpIdeal.sig) → Buf (Elt Ideal) ℓ) (g' : Dev Cert.RExpIdeal.nD → PrngReg), Pre_KExpIdeal m →
    (∀ c : Dev Cert.KExpIdeal.nD,
      m' ((c.tc : Thread Cert.RExpIdeal.nD Cert.RExpIdeal.τ).loc Cert.RExpIdeal.main_arg0) = m ((c.tc : Thread Cert.KExpIdeal.nD Cert.KExpIdeal.τ).loc Cert.KExpIdeal.main_arg0)
      ∧ m' ((c.tc : Thread Cert.RExpIdeal.nD Cert.RExpIdeal.τ).loc Cert.RExpIdeal.main_arg1) = m ((c.tc : Thread Cert.KExpIdeal.nD Cert.KExpIdeal.τ).loc Cert.KExpIdeal.main_arg1)
      ∧ m' ((c.tc : Thread Cert.RExpIdeal.nD Cert.RExpIdeal.τ).loc Cert.RExpIdeal.main_arg2) = m ((c.tc : Thread Cert.KExpIdeal.nD Cert.KExpIdeal.τ).loc Cert.KExpIdeal.main_arg2)
      ∧ m' ((c.tc : Thread Cert.RExpIdeal.nD Cert.RExpIdeal.τ).loc Cert.RExpIdeal.main_arg3) = m ((c.tc : Thread Cert.KExpIdeal.nD Cert.KExpIdeal.τ).loc Cert.KExpIdeal.main_arg3)
      ∧ m' ((c.tc : Thread Cert.RExpIdeal.nD Cert.RExpIdeal.τ).loc Cert.RExpIdeal.main_arg4) = m ((c.tc : Thread Cert.KExpIdeal.nD Cert.KExpIdeal.τ).loc Cert.KExpIdeal.main_arg4)
      ∧ m' ((c.tc : Thread Cert.RExpIdeal.nD Cert.RExpIdeal.τ).loc Cert.RExpIdeal.main_arg5) = m ((c.tc : Thread Cert.KExpIdeal.nD Cert.KExpIdeal.τ).loc Cert.KExpIdeal.main_arg5)) →
    ∃ (v0 : (c : Dev Cert.KExpIdeal.nD) → Buf (Elt Ideal) ((c.tc : Thread Cert.KExpIdeal.nD Cert.KExpIdeal.τ).loc Cert.KExpIdeal.main_v31)),
      θ_run (Cert.KExpIdeal.defs (F := Ideal)) (onTc (τ := Cert.KExpIdeal.τ) (Cert.KExpIdeal.main (F := Ideal))) ⟨m, fun _ => 0, g⟩ (fun r => ∀ c : Dev Cert.KExpIdeal.nD,
          r.2.mem ((c.tc : Thread Cert.KExpIdeal.nD Cert.KExpIdeal.τ).loc Cert.KExpIdeal.main_v31) = v0 c
          ∧ r.2.mem ((c.tc : Thread Cert.KExpIdeal.nD Cert.KExpIdeal.τ).loc Cert.KExpIdeal.main_arg0) = m ((c.tc : Thread Cert.KExpIdeal.nD Cert.KExpIdeal.τ).loc Cert.KExpIdeal.main_arg0)
          ∧ r.2.mem ((c.tc : Thread Cert.KExpIdeal.nD Cert.KExpIdeal.τ).loc Cert.KExpIdeal.main_arg1) = m ((c.tc : Thread Cert.KExpIdeal.nD Cert.KExpIdeal.τ).loc Cert.KExpIdeal.main_arg1)
          ∧ r.2.mem ((c.tc : Thread Cert.KExpIdeal.nD Cert.KExpIdeal.τ).loc Cert.KExpIdeal.main_arg2) = m ((c.tc : Thread Cert.KExpIdeal.nD Cert.KExpIdeal.τ).loc Cert.KExpIdeal.main_arg2)
          ∧ r.2.mem ((c.tc : Thread Cert.KExpIdeal.nD Cert.KExpIdeal.τ).loc Cert.KExpIdeal.main_arg3) = m ((c.tc : Thread Cert.KExpIdeal.nD Cert.KExpIdeal.τ).loc Cert.KExpIdeal.main_arg3)
          ∧ r.2.mem ((c.tc : Thread Cert.KExpIdeal.nD Cert.KExpIdeal.τ).loc Cert.KExpIdeal.main_arg4) = m ((c.tc : Thread Cert.KExpIdeal.nD Cert.KExpIdeal.τ).loc Cert.KExpIdeal.main_arg4)
          ∧ r.2.mem ((c.tc : Thread Cert.KExpIdeal.nD Cert.KExpIdeal.τ).loc Cert.KExpIdeal.main_arg5) = m ((c.tc : Thread Cert.KExpIdeal.nD Cert.KExpIdeal.τ).loc Cert.KExpIdeal.main_arg5))
      ∧ θ_run (Cert.RExpIdeal.defs (F := Ideal)) (onTc (τ := Cert.RExpIdeal.τ) (Cert.RExpIdeal.main (F := Ideal))) ⟨m', fun _ => 0, g'⟩ (fun r => ∀ c : Dev Cert.RExpIdeal.nD,
          r.2.mem ((c.tc : Thread Cert.RExpIdeal.nD Cert.RExpIdeal.τ).loc Cert.RExpIdeal.main_v89) = v0 c
          ∧ r.2.mem ((c.tc : Thread Cert.RExpIdeal.nD Cert.RExpIdeal.τ).loc Cert.RExpIdeal.main_arg0) = m' ((c.tc : Thread Cert.RExpIdeal.nD Cert.RExpIdeal.τ).loc Cert.RExpIdeal.main_arg0)
          ∧ r.2.mem ((c.tc : Thread Cert.RExpIdeal.nD Cert.RExpIdeal.τ).loc Cert.RExpIdeal.main_arg1) = m' ((c.tc : Thread Cert.RExpIdeal.nD Cert.RExpIdeal.τ).loc Cert.RExpIdeal.main_arg1)
          ∧ r.2.mem ((c.tc : Thread Cert.RExpIdeal.nD Cert.RExpIdeal.τ).loc Cert.RExpIdeal.main_arg2) = m' ((c.tc : Thread Cert.RExpIdeal.nD Cert.RExpIdeal.τ).loc Cert.RExpIdeal.main_arg2)
          ∧ r.2.mem ((c.tc : Thread Cert.RExpIdeal.nD Cert.RExpIdeal.τ).loc Cert.RExpIdeal.main_arg3) = m' ((c.tc : Thread Cert.RExpIdeal.nD Cert.RExpIdeal.τ).loc Cert.RExpIdeal.main_arg3)
          ∧ r.2.mem ((c.tc : Thread Cert.RExpIdeal.nD Cert.RExpIdeal.τ).loc Cert.RExpIdeal.main_arg4) = m' ((c.tc : Thread Cert.RExpIdeal.nD Cert.RExpIdeal.τ).loc Cert.RExpIdeal.main_arg4)
          ∧ r.2.mem ((c.tc : Thread Cert.RExpIdeal.nD Cert.RExpIdeal.τ).loc Cert.RExpIdeal.main_arg5) = m' ((c.tc : Thread Cert.RExpIdeal.nD Cert.RExpIdeal.τ).loc Cert.RExpIdeal.main_arg5))

def Claim : Prop :=
  ∃ (hKernel : Cert.Kernel.Facts) (hKernelIdeal : Cert.KernelIdeal.Facts) (hReferenceIdeal : Cert.ReferenceIdeal.Facts) (hKProj : Cert.KProj.Facts) (hKProjIdeal : Cert.KProjIdeal.Facts) (hRProjIdeal : Cert.RProjIdeal.Facts) (hKMem : Cert.KMem.Facts) (hKMemIdeal : Cert.KMemIdeal.Facts) (hRMemIdeal : Cert.RMemIdeal.Facts) (hKExp : Cert.KExp.Facts) (hKExpIdeal : Cert.KExpIdeal.Facts) (hRExpIdeal : Cert.RExpIdeal.Facts),
    quiescent_Kernel (hKernel := hKernel)
    ∧ quiescent_KernelIdeal (hKernelIdeal := hKernelIdeal)
    ∧ quiescent_ReferenceIdeal (hReferenceIdeal := hReferenceIdeal)
    ∧ quiescent_KProj (hKProj := hKProj)
    ∧ quiescent_KProjIdeal (hKProjIdeal := hKProjIdeal)
    ∧ quiescent_RProjIdeal (hRProjIdeal := hRProjIdeal)
    ∧ quiescent_KMem (hKMem := hKMem)
    ∧ quiescent_KMemIdeal (hKMemIdeal := hKMemIdeal)
    ∧ quiescent_RMemIdeal (hRMemIdeal := hRMemIdeal)
    ∧ quiescent_KExp (hKExp := hKExp)
    ∧ quiescent_KExpIdeal (hKExpIdeal := hKExpIdeal)
    ∧ quiescent_RExpIdeal (hRExpIdeal := hRExpIdeal)
    ∧ preserves_Kernel_KernelIdeal
    ∧ algebraic_KernelIdeal_ReferenceIdeal (hKernelIdeal := hKernelIdeal) (hReferenceIdeal := hReferenceIdeal)
    ∧ preserves_KProj_KProjIdeal
    ∧ algebraic_KProjIdeal_RProjIdeal (hKProjIdeal := hKProjIdeal) (hRProjIdeal := hRProjIdeal)
    ∧ preserves_KMem_KMemIdeal
    ∧ algebraic_KMemIdeal_RMemIdeal (hKMemIdeal := hKMemIdeal) (hRMemIdeal := hRMemIdeal)
    ∧ preserves_KExp_KExpIdeal
    ∧ algebraic_KExpIdeal_RExpIdeal (hKExpIdeal := hKExpIdeal) (hRExpIdeal := hRExpIdeal)
-- ==== Kernel.lean ====
abbrev S32768x1024 : Shape := ⟨2, ![32768, 1024]⟩
abbrev S32768x2048 : Shape := ⟨2, ![32768, 2048]⟩
abbrev S32768x11264 : Shape := ⟨2, ![32768, 11264]⟩
abbrev S1x1024x1024 : Shape := ⟨3, ![1, 1024, 1024]⟩
abbrev S1x2048x1024 : Shape := ⟨3, ![1, 2048, 1024]⟩
abbrev S1x1024 : Shape := ⟨2, ![1, 1024]⟩
abbrev S4096x1024 : Shape := ⟨2, ![4096, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S32 : Shape := ⟨1, ![32]⟩
abbrev S96 : Shape := ⟨1, ![96]⟩
abbrev S128 : Shape := ⟨1, ![128]⟩
abbrev S1x128 : Shape := ⟨2, ![1, 128]⟩
abbrev S1024x1024 : Shape := ⟨2, ![1024, 1024]⟩
abbrev S2048x1024 : Shape := ⟨2, ![2048, 1024]⟩
abbrev S1024 : Shape := ⟨1, ![1024]⟩
abbrev S32768x128 : Shape := ⟨2, ![32768, 128]⟩
abbrev S8x128 : Shape := ⟨2, ![8, 128]⟩
abbrev S512x1024 : Shape := ⟨2, ![512, 1024]⟩
abbrev S512x2048 : Shape := ⟨2, ![512, 2048]⟩
abbrev S256x1024 : Shape := ⟨2, ![256, 1024]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 49
  | .vmem => 33
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x11264, .bf16⟩
  | .hbm, ⟨3, _⟩ => ⟨S32768x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S1x1024, .f32⟩
  | .hbm, ⟨15, _⟩ => ⟨S1x1024x32, .f32⟩
  | .hbm, ⟨16, _⟩ => ⟨S1x32, .f32⟩
  | .hbm, ⟨17, _⟩ => ⟨S1024x32, .f32⟩
  | .hbm, ⟨18, _⟩ => ⟨S_, .f32⟩
  | .hbm, ⟨19, _⟩ => ⟨S1024x96, .f32⟩
  | .hbm, ⟨20, _⟩ => ⟨S1024x128, .f32⟩
  | .hbm, ⟨21, _⟩ => ⟨S1024x128, .bf16⟩
  | .hbm, ⟨22, _⟩ => ⟨S32, .f32⟩
  | .hbm, ⟨23, _⟩ => ⟨S_, .f32⟩
  | .hbm, ⟨24, _⟩ => ⟨S96, .f32⟩
  | .hbm, ⟨25, _⟩ => ⟨S128, .f32⟩
  | .hbm, ⟨26, _⟩ => ⟨S1x128, .f32⟩
  | .hbm, ⟨27, _⟩ => ⟨S1024x1024, .f32⟩
  | .hbm, ⟨28, _⟩ => ⟨S1024x1024, .bf16⟩
  | .hbm, ⟨29, _⟩ => ⟨S2048x1024, .f32⟩
  | .hbm, ⟨30, _⟩ => ⟨S2048x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x1024, .f32⟩
  | .hbm, ⟨38, _⟩ => ⟨S1024x1024, .bf16⟩
  | .hbm, ⟨39, _⟩ => ⟨S1024x1024, .f32⟩
  | .hbm, ⟨40, _⟩ => ⟨S1024x1024, .bf16⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S32768x1024, .f32⟩
  | .hbm, ⟨46, _⟩ => ⟨S32768x128, .f32⟩
  | .hbm, ⟨47, _⟩ => ⟨S32768x128, .i32⟩
  | .hbm, ⟨48, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1024x128, .bf16⟩
  | .local _ .vmem, ⟨24, _⟩ => ⟨S1x128, .f32⟩
  | .local _ .vmem, ⟨25, _⟩ => ⟨S512x1024, .f32⟩
  | .local _ .vmem, ⟨26, _⟩ => ⟨S512x1024, .f32⟩
  | .local _ .vmem, ⟨27, _⟩ => ⟨S512x128, .f32⟩
  | .local _ .vmem, ⟨28, _⟩ => ⟨S512x128, .f32⟩
  | .local _ .vmem, ⟨29, _⟩ => ⟨S512x128, .i32⟩
  | .local _ .vmem, ⟨30, _⟩ => ⟨S512x128, .i32⟩
  | .local _ .vmem, ⟨31, _⟩ => ⟨S8x128, .f32⟩
  | .local _ .vmem, ⟨32, _⟩ => ⟨S8x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v26_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x128 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]
-- ==== ReferenceIdeal.lean ====
abbrev S32768x1024 : Shape := ⟨2, ![32768, 1024]⟩
abbrev S32768x2048 : Shape := ⟨2, ![32768, 2048]⟩
abbrev S32768x11264 : Shape := ⟨2, ![32768, 11264]⟩
abbrev S1x1024x1024 : Shape := ⟨3, ![1, 1024, 1024]⟩
abbrev S1x2048x1024 : Shape := ⟨3, ![1, 2048, 1024]⟩
abbrev S1x1024 : Shape := ⟨2, ![1, 1024]⟩
abbrev S4096x1024 : Shape := ⟨2, ![4096, 1024]⟩
abbrev S1x1024x32 : Shape := ⟨3, ![1, 1024, 32]⟩
abbrev S1x32 : Shape := ⟨2, ![1, 32]⟩
abbrev S16x2048x1024 : Shape := ⟨3, ![16, 2048, 1024]⟩
abbrev S1024x1024 : Shape := ⟨2, ![1024, 1024]⟩
abbrev S16x2048x2048 : Shape := ⟨3, ![16, 2048, 2048]⟩
abbrev S2048x1024 : Shape := ⟨2, ![2048, 1024]⟩
abbrev S_ : Shape := ⟨0, ![]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 154
  | .vmem => 0
  | .smem => 0
  | _ => 0

abbrev hbmTy0_0 (i : Nat) : BufTy := match i % 128 with
  | 0 => ⟨S32768x1024, .bf16⟩
  | 1 => ⟨S32768x2048, .bf16⟩
  | 2 => ⟨S32768x11264, .bf16⟩
  | 3 => ⟨S32768x1024, .f32⟩
  | 4 => ⟨S1x1024x1024, .f32⟩
  | 5 => ⟨S1x2048x1024, .f32⟩
  | 6 => ⟨S1x1024x1024, .f32⟩
  | 7 => ⟨S1x1024, .f32⟩
  | 8 => ⟨S1x1024, .f32⟩
  | 9 => ⟨S4096x1024, .bf16⟩
  | 10 => ⟨S4096x1024, .bf16⟩
  | 11 => ⟨S1x1024x1024, .f32⟩
  | 12 => ⟨S1x1024x1024, .f32⟩
  | 13 => ⟨S1x1024, .f32⟩
  | 14 => ⟨S1x1024, .f32⟩
  | 15 => ⟨S1x1024x32, .f32⟩
  | 16 => ⟨S1x32, .f32⟩
  | 17 => ⟨S32768x1024, .f32⟩
  | 18 => ⟨S16x2048x1024, .f32⟩
  | 19 => ⟨S1024x1024, .f32⟩
  | 20 => ⟨S16x2048x1024, .f32⟩
  | 21 => ⟨S32768x2048, .f32⟩
  | 22 => ⟨S16x2048x2048, .f32⟩
  | 23 => ⟨S2048x1024, .f32⟩
  | 24 => ⟨S16x2048x1024, .f32⟩
  | 25 => ⟨S32768x1024, .bf16⟩
  | 26 => ⟨S32768x1024, .f32⟩
  | 27 => ⟨S16x2048x1024, .f32⟩
  | 28 => ⟨S32768x1024, .bf16⟩
  | 29 => ⟨S32768x1024, .f32⟩
  | 30 => ⟨S16x2048x1024, .f32⟩
  | 31 => ⟨S16x2048x1024, .f32⟩
  | 32 => ⟨S16x2048x1024, .f32⟩
  | 33 => ⟨S_, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S_, .f32⟩
  | 43 => ⟨S16x2048x1024, .f32⟩
  | 44 => ⟨S16x2048x1024, .f32⟩
  | 45 => ⟨S_, .f32⟩
  | 46 => ⟨S16x2048x1024, .f32⟩
  | 47 => ⟨S16x2048x1024, .f32⟩
  | 48 => ⟨S16x2048x1024, .f32⟩
  | 49 => ⟨S16x2048x1024, .f32⟩
  | 50 => ⟨S1024x1024, .f32⟩
  | 51 => ⟨S16x2048x1024, .f32⟩
  | 52 => ⟨S16x2048x1024, .f32⟩
  | 53 => ⟨S_, .f32⟩
  | 54 => ⟨S16x2048x1024, .f32⟩
  | 55 => ⟨S16x2048x1024, .f32⟩
  | 56 => ⟨S16x2048x1024, .f32⟩
  | 57 => ⟨S1024, .f32⟩
  | 58 => ⟨S1024, .f32⟩
  | 59 => ⟨S_, .f32⟩
  | 60 => ⟨S16x2048, .f32⟩
  | 61 => ⟨S16x2048x1, .f32⟩
  | 62 => ⟨S_, .f32⟩
  | 63 => ⟨S16x2048x1, .f32⟩
  | 64 => ⟨S16x2048x1, .f32⟩
  | 65 => ⟨S16x2048x1024, .f32⟩
  | 66 => ⟨S16x2048x1024, .f32⟩
  | 67 => ⟨S16x2048x1024, .f32⟩
  | 68 => ⟨S_, .f32⟩
  | 69 => ⟨S16x2048, .f32⟩
  | 70 => ⟨S16x2048x1, .f32⟩
  | 71 => ⟨S_, .f32⟩
  | 72 => ⟨S16x2048x1, .f32⟩
  | 73 => ⟨S16x2048x1, .f32⟩
  | 74 => ⟨S16x2048x1024, .f32⟩
  | 75 => ⟨S16x2048x1024, .f32⟩
  | 76 => ⟨S_, .f32⟩
  | 77 => ⟨S16x2048x1, .f32⟩
  | 78 => ⟨S16x2048x1, .f32⟩
  | 79 => ⟨S16x2048x1, .f32⟩
  | 80 => ⟨S16x2048x1024, .f32⟩
  | 81 => ⟨S16x2048x1024, .f32⟩
  | 82 => ⟨S1x1x1024, .f32⟩
  | 83 => ⟨S16x2048x1024, .f32⟩
  | 84 => ⟨S16x2048x1024, .f32⟩
  | 85 => ⟨S1x1x1024, .f32⟩
  | 86 => ⟨S16x2048x1024, .f32⟩
  | 87 => ⟨S16x2048x1024, .f32⟩
  | 88 => ⟨S1024x1024, .f32⟩
  | 89 => ⟨S16x2048x1024, .f32⟩
  | 90 => ⟨S16x2048x4x256, .f32⟩
  | 91 => ⟨S4096x1024, .f32⟩
  | 92 => ⟨S16x256x4x256, .f32⟩
  | 93 => ⟨S4096x1024, .f32⟩
  | 94 => ⟨S16x256x4x256, .f32⟩
  | 95 => ⟨S16x4x2048x256, .f32⟩
  | 96 => ⟨S_, .f32⟩
  | 97 => ⟨S16x4x2048x256, .f32⟩
  | 98 => ⟨S16x4x2048x256, .f32⟩
  | 99 => ⟨S_, .f32⟩
  | 100 => ⟨S16x4x2048, .f32⟩
  | 101 => ⟨S_, .f32⟩
  | 102 => ⟨S16x4x2048, .f32⟩
  | 103 => ⟨S16x4x2048, .f32⟩
  | 104 => ⟨S16x4x2048x1, .f32⟩
  | 105 => ⟨S16x4x2048x256, .f32⟩
  | 106 => ⟨S16x4x2048x256, .f32⟩
  | 107 => ⟨S16x4x2048x256, .f32⟩
  | 108 => ⟨S_, .f32⟩
  | 109 => ⟨S16x4x2048, .f32⟩
  | 110 => ⟨S16x4x2048x1, .f32⟩
  | 111 => ⟨S16x4x2048x256, .f32⟩
  | 112 => ⟨S16x4x2048x256, .f32⟩
  | 113 => ⟨S16x4x256x2048, .f32⟩
  | 114 => ⟨S16x2048x4x256, .f32⟩
  | 115 => ⟨S16x2048x1024, .f32⟩
  | 116 => ⟨S1024x1024, .f32⟩
  | 117 => ⟨S16x2048x1024, .f32⟩
  | 118 => ⟨S_, .f32⟩
  | 119 => ⟨S16x2048x1024, .f32⟩
  | 120 => ⟨S16x2048x1024, .f32⟩
  | 121 => ⟨S16x2048x1024, .f32⟩
  | 122 => ⟨S1024, .f32⟩
  | 123 => ⟨S1024, .f32⟩
  | 124 => ⟨S_, .f32⟩
  | 125 => ⟨S16x2048, .f32⟩
  | 126 => ⟨S16x2048x1, .f32⟩
  | 127 => ⟨S_, .f32⟩
  | _ => ⟨S32768x1024, .bf16⟩

abbrev hbmTy0_1 (i : Nat) : BufTy := match i % 128 with
  | 0 => ⟨S16x2048x1, .f32⟩
  | 1 => ⟨S16x2048x1, .f32⟩
  | 2 => ⟨S16x2048x1024, .f32⟩
  | 3 => ⟨S16x2048x1024, .f32⟩
  | 4 => ⟨S16x2048x1024, .f32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S16x2048x1024, .f32⟩
  | 12 => ⟨S16x2048x1024, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S32768x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_cst_11 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_13 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_14 : Ref sig .tc := ⟨.hbm, 124, rfl⟩
abbrev main_v92 : Ref sig .tc := ⟨.hbm, 125, rfl⟩
abbrev main_v93 : Ref sig .tc := ⟨.hbm, 126, rfl⟩
abbrev main_cst_15 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_16 : Ref sig .tc := ⟨.hbm, 133, rfl⟩
abbrev main_v99 : Ref sig .tc := ⟨.hbm, 134, rfl⟩
abbrev main_v100 : Ref sig .tc := ⟨.hbm, 135, rfl⟩
abbrev main_cst_17 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]
-- ==== KProj.lean ====
abbrev S16x2048x1024 : Shape := ⟨3, ![16, 2048, 1024]⟩
abbrev S1024 : Shape := ⟨1, ![1024]⟩
abbrev S1x1024x11304 : Shape := ⟨3, ![1, 1024, 11304]⟩
abbrev S1024x11304 : Shape := ⟨2, ![1024, 11304]⟩
abbrev S1024x4096 : Shape := ⟨2, ![1024, 4096]⟩
abbrev S1024x2048 : Shape := ⟨2, ![1024, 2048]⟩
abbrev S1024x1024 : Shape := ⟨2, ![1024, 1024]⟩
abbrev S1024x512 : Shape := ⟨2, ![1024, 512]⟩
abbrev S1024x11264 : Shape := ⟨2, ![1024, 11264]⟩
abbrev S1024x8 : Shape := ⟨2, ![1024, 8]⟩
abbrev S1024x16 : Shape := ⟨2, ![1024, 16]⟩
abbrev S_ : Shape := ⟨0, ![]⟩
abbrev S1024x88 : Shape := ⟨2, ![1024, 88]⟩
abbrev S1024x128 : Shape := ⟨2, ![1024, 128]⟩
abbrev S32768x1024 : Shape := ⟨2, ![32768, 1024]⟩
abbrev S1x1024 : Shape := ⟨2, ![1, 1024]⟩
abbrev S32768x11264 : Shape := ⟨2, ![32768, 11264]⟩
abbrev S512x128x64 : Shape := ⟨3, ![512, 128, 64]⟩
abbrev S1024x2816 : Shape := ⟨2, ![1024, 2816]⟩
abbrev S16x128x64 : Shape := ⟨3, ![16, 128, 64]⟩
abbrev S1024x1 : Shape := ⟨2, ![1024, 1]⟩
abbrev S64x128 : Shape := ⟨2, ![64, 128]⟩
abbrev S128x64 : Shape := ⟨2, ![128, 64]⟩
abbrev S1x128x64 : Shape := ⟨3, ![1, 128, 64]⟩

abbrev nBuf : Space → Nat
  | .hbm => 28
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x11304, .f32⟩
  | .hbm, ⟨4, _⟩ => ⟨S1024x11304, .f32⟩
  | .hbm, ⟨5, _⟩ => ⟨S1024x4096, .f32⟩
  | .hbm, ⟨6, _⟩ => ⟨S1024x2048, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x512, .f32⟩
  | .hbm, ⟨12, _⟩ => ⟨S1024x512, .f32⟩
  | .hbm, ⟨13, _⟩ => ⟨S1024x11264, .f32⟩
  | .hbm, ⟨14, _⟩ => ⟨S1024x11264, .bf16⟩
  | .hbm, ⟨15, _⟩ => ⟨S1024x8, .f32⟩
  | .hbm, ⟨16, _⟩ => ⟨S1024x16, .f32⟩
  | .hbm, ⟨17, _⟩ => ⟨S1024x16, .f32⟩
  | .hbm, ⟨18, _⟩ => ⟨S_, .f32⟩
  | .hbm, ⟨19, _⟩ => ⟨S1024x88, .f32⟩
  | .hbm, ⟨20, _⟩ => ⟨S1024x128, .f32⟩
  | .hbm, ⟨21, _⟩ => ⟨S1024x128, .bf16⟩
  | .hbm, ⟨22, _⟩ => ⟨S32768x1024, .f32⟩
  | .hbm, ⟨23, _⟩ => ⟨S1x1024, .f32⟩
  | .hbm, ⟨24, _⟩ => ⟨S1x1024, .f32⟩
  | .hbm, ⟨25, _⟩ => ⟨S32768x1024, .f32⟩
  | .hbm, ⟨26, _⟩ => ⟨S32768x11264, .bf16⟩
  | .hbm, ⟨27, _⟩ => ⟨S512x128x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S1024x128, .bf16⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | .local _ .vmem, ⟨10, _⟩ => ⟨S1024x2816, .bf16⟩
  | .local _ .vmem, ⟨11, _⟩ => ⟨S16x128x64, .f32⟩
  | .local _ .vmem, ⟨12, _⟩ => ⟨S16x128x64, .f32⟩
  | .local _ .vmem, ⟨13, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RProjIdeal.lean ====
abbrev S16x2048x1024 : Shape := ⟨3, ![16, 2048, 1024]⟩
abbrev S1024 : Shape := ⟨1, ![1024]⟩
abbrev S1x1024x11304 : Shape := ⟨3, ![1, 1024, 11304]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x11304 : Shape := ⟨2, ![1024, 11304]⟩
abbrev S16x2048x11304 : Shape := ⟨3, ![16, 2048, 11304]⟩
abbrev S16x2048x512 : Shape := ⟨3, ![16, 2048, 512]⟩
abbrev S16x2048x8 : Shape := ⟨3, ![16, 2048, 8]⟩
abbrev S16x2048x4096 : Shape := ⟨3, ![16, 2048, 4096]⟩
abbrev S16x2048x2048 : Shape := ⟨3, ![16, 2048, 2048]⟩
abbrev S16x2048x16 : Shape := ⟨3, ![16, 2048, 16]⟩
abbrev S16x2048x11264 : Shape := ⟨3, ![16, 2048, 11264]⟩
abbrev S16x2048x88 : Shape := ⟨3, ![16, 2048, 88]⟩
abbrev S16x2048x128 : Shape := ⟨3, ![16, 2048, 128]⟩
abbrev S32768x1024 : Shape := ⟨2, ![32768, 1024]⟩
abbrev S32768x11264 : Shape := ⟨2, ![32768, 11264]⟩
abbrev S512x64x128 : Shape := ⟨3, ![512, 64, 128]⟩
abbrev S512x128x64 : Shape := ⟨3, ![512, 128, 64]⟩

abbrev nBuf : Space → Nat
  | .hbm => 55
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x11304, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S1024x11304, .f32⟩
  | .hbm, ⟨34, _⟩ => ⟨S16x2048x11304, .f32⟩
  | .hbm, ⟨35, _⟩ => ⟨S16x2048x512, .f32⟩
  | .hbm, ⟨36, _⟩ => ⟨S16x2048x512, .f32⟩
  | .hbm, ⟨37, _⟩ => ⟨S16x2048x1024, .f32⟩
  | .hbm, ⟨38, _⟩ => ⟨S16x2048x1024, .f32⟩
  | .hbm, ⟨39, _⟩ => ⟨S16x2048x8, .f32⟩
  | .hbm, ⟨40, _⟩ => ⟨S16x2048x4096, .f32⟩
  | .hbm, ⟨41, _⟩ => ⟨S16x2048x2048, .f32⟩
  | .hbm, ⟨42, _⟩ => ⟨S16x2048x16, .f32⟩
  | .hbm, ⟨43, _⟩ => ⟨S16x2048x16, .f32⟩
  | .hbm, ⟨44, _⟩ => ⟨S16x2048x1024, .f32⟩
  | .hbm, ⟨45, _⟩ => ⟨S16x2048x1024, .f32⟩
  | .hbm, ⟨46, _⟩ => ⟨S16x2048x11264, .f32⟩
  | .hbm, ⟨47, _⟩ => ⟨S_, .f32⟩
  | .hbm, ⟨48, _⟩ => ⟨S16x2048x88, .f32⟩
  | .hbm, ⟨49, _⟩ => ⟨S16x2048x128, .f32⟩
  | .hbm, ⟨50, _⟩ => ⟨S32768x1024, .f32⟩
  | .hbm, ⟨51, _⟩ => ⟨S32768x11264, .f32⟩
  | .hbm, ⟨52, _⟩ => ⟨S32768x11264, .bf16⟩
  | .hbm, ⟨53, _⟩ => ⟨S512x64x128, .f32⟩
  | .hbm, ⟨54, _⟩ => ⟨S512x128x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== KMem.lean ====
abbrev S16x256x1024 : Shape := ⟨3, ![16, 256, 1024]⟩
abbrev S1x1024x1024 : Shape := ⟨3, ![1, 1024, 1024]⟩
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x1024x1024, .f32⟩
  | .hbm, ⟨2, _⟩ => ⟨S1x1024x1024, .f32⟩
  | .hbm, ⟨3, _⟩ => ⟨S4096x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S4096x1024, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RMemIdeal.lean ====
abbrev S16x256x1024 : Shape := ⟨3, ![16, 256, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S16x256x1024, .f32⟩
  | .hbm, ⟨5, _⟩ => ⟨S4096x1024, .f32⟩
  | .hbm, ⟨6, _⟩ => ⟨S4096x1024, .bf16⟩
  | .hbm, ⟨7, _⟩ => ⟨S1024x1024, .f32⟩
  | .hbm, ⟨8, _⟩ => ⟨S16x256x1024, .f32⟩
  | .hbm, ⟨9, _⟩ => ⟨S4096x1024, .f32⟩
  | .hbm, ⟨10, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KExp.lean ====
abbrev S8x128 : Shape := ⟨2, ![8, 128]⟩
abbrev S147456x1024 : Shape := ⟨2, ![147456, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1x32 : Shape := ⟨2, ![1, 32]⟩
abbrev S32 : Shape := ⟨1, ![32]⟩
abbrev S_ : Shape := ⟨0, ![]⟩
abbrev S288 : Shape := ⟨1, ![288]⟩
abbrev S288x1 : Shape := ⟨2, ![288, 1]⟩
abbrev S288x32 : Shape := ⟨2, ![288, 32]⟩
abbrev S1 : Shape := ⟨1, ![1]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 78
  | .vmem => 14
  | .smem => 2
  | _ => 0

abbrev bufTy : (tb : Table) → Fin (tcTables nBuf tb) → BufTy
  | .hbm, ⟨0, _⟩ => ⟨S8x128, .f32⟩
  | .hbm, ⟨1, _⟩ => ⟨S147456x1024, .f32⟩
  | .hbm, ⟨2, _⟩ => ⟨S1x32x1024x2048, .f32⟩
  | .hbm, ⟨3, _⟩ => ⟨S1x32x2048, .f32⟩
  | .hbm, ⟨4, _⟩ => ⟨S1x32x1024x1024, .f32⟩
  | .hbm, ⟨5, _⟩ => ⟨S1x32x1024, .f32⟩
  | .hbm, ⟨6, _⟩ => ⟨S1x32, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S288, .i32⟩
  | .hbm, ⟨40, _⟩ => ⟨S_, .i32⟩
  | .hbm, ⟨41, _⟩ => ⟨S288, .i32⟩
  | .hbm, ⟨42, _⟩ => ⟨S288, .i32⟩
  | .hbm, ⟨43, _⟩ => ⟨S1x32, .i32⟩
  | .hbm, ⟨44, _⟩ => ⟨S288x1, .i32⟩
  | .hbm, ⟨45, _⟩ => ⟨S288x32, .i32⟩
  | .hbm, ⟨46, _⟩ => ⟨S288x32, .i32⟩
  | .hbm, ⟨47, _⟩ => ⟨S288x32, .i1⟩
  | .hbm, ⟨48, _⟩ => ⟨S288x32, .i32⟩
  | .hbm, ⟨49, _⟩ => ⟨S_, .i32⟩
  | .hbm, ⟨50, _⟩ => ⟨S288, .i32⟩
  | .hbm, ⟨51, _⟩ => ⟨S_, .i32⟩
  | .hbm, ⟨52, _⟩ => ⟨S288, .i32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i1⟩
  | .hbm, ⟨67, _⟩ => ⟨S1, .i1⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S32x1024x2048, .f32⟩
  | .hbm, ⟨72, _⟩ => ⟨S32x2048, .f32⟩
  | .hbm, ⟨73, _⟩ => ⟨S32x1x2048, .f32⟩
  | .hbm, ⟨74, _⟩ => ⟨S32x1024x1024, .f32⟩
  | .hbm, ⟨75, _⟩ => ⟨S32x1024, .f32⟩
  | .hbm, ⟨76, _⟩ => ⟨S32x1x1024, .f32⟩
  | .hbm, ⟨77, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v23 : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v22 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v22.idx, main_v24.idx], fun | 0 => main_v22.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RExpIdeal.lean ====
abbrev S8x128 : Shape := ⟨2, ![8, 128]⟩
abbrev S147456x1024 : Shape := ⟨2, ![147456, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1x32 : Shape := ⟨2, ![1, 32]⟩
abbrev S32 : Shape := ⟨1, ![32]⟩
abbrev S_ : Shape := ⟨0, ![]⟩
abbrev S288 : Shape := ⟨1, ![288]⟩
abbrev S288x1 : Shape := ⟨2, ![288, 1]⟩
abbrev S288x32 : Shape := ⟨2, ![288, 32]⟩
abbrev S288x512x1024 : Shape := ⟨3, ![288, 512, 1024]⟩
abbrev S32x1024x2048 : Shape := ⟨3, ![32, 1024, 2048]⟩
abbrev S288x1024x2048 : Shape := ⟨3, ![288, 1024, 2048]⟩
abbrev S288x512x2048 : Shape := ⟨3, ![288, 512, 2048]⟩
abbrev S32x2048 : Shape := ⟨2, ![32, 2048]⟩
abbrev S288x2048 : Shape := ⟨2, ![288, 2048]⟩
abbrev S288x1x2048 : Shape := ⟨3, ![288, 1, 2048]⟩
abbrev S32x1024x1024 : Shape := ⟨3, ![32, 1024, 1024]⟩
abbrev S288x1024x1024 : Shape := ⟨3, ![288, 1024, 1024]⟩
abbrev S32x1024 : Shape := ⟨2, ![32, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩

abbrev nBuf : Space → Nat
  | .hbm => 157
  | .vmem => 0
  | .smem => 0
  | _ => 0

abbrev hbmTy0_0 (i : Nat) : BufTy := match i % 128 with
  | 0 => ⟨S8x128, .f32⟩
  | 1 => ⟨S147456x1024, .f32⟩
  | 2 => ⟨S1x32x1024x2048, .f32⟩
  | 3 => ⟨S1x32x2048, .f32⟩
  | 4 => ⟨S1x32x1024x1024, .f32⟩
  | 5 => ⟨S1x32x1024, .f32⟩
  | 6 => ⟨S1x32, .f32⟩
  | 7 => ⟨S32, .f32⟩
  | 8 => ⟨S32, .i32⟩
  | 9 => ⟨S_, .i32⟩
  | 10 => ⟨S32, .i32⟩
  | 11 => ⟨S32, .i32⟩
  | 12 => ⟨S_, .i32⟩
  | 13 => ⟨S32, .i32⟩
  | 14 => ⟨S32, .i32⟩
  | 15 => ⟨S_, .i32⟩
  | 16 => ⟨S_, .i32⟩
  | 17 => ⟨S32, .i32⟩
  | 18 => ⟨S32, .i32⟩
  | 19 => ⟨S32, .i32⟩
  | 20 => ⟨S_, .i32⟩
  | 21 => ⟨S32, .i32⟩
  | 22 => ⟨S32, .i1⟩
  | 23 => ⟨S32, .i32⟩
  | 24 => ⟨S32, .i32⟩
  | 25 => ⟨S_, .i32⟩
  | 26 => ⟨S32, .i32⟩
  | 27 => ⟨S32, .i1⟩
  | 28 => ⟨S32, .i1⟩
  | 29 => ⟨S_, .i32⟩
  | 30 => ⟨S32, .i32⟩
  | 31 => ⟨S32, .i32⟩
  | 32 => ⟨S32, .i32⟩
  | 33 => ⟨S_, .i32⟩
  | 34 => ⟨S32, .i32⟩
  | 35 => ⟨S32, .i32⟩
  | 36 => ⟨S_, .i32⟩
  | 37 => ⟨S_, .i32⟩
  | 38 => ⟨S32, .i32⟩
  | 39 => ⟨S288, .i32⟩
  | 40 => ⟨S_, .i32⟩
  | 41 => ⟨S288, .i32⟩
  | 42 => ⟨S288, .i32⟩
  | 43 => ⟨S1x32, .i32⟩
  | 44 => ⟨S288x1, .i32⟩
  | 45 => ⟨S288x32, .i32⟩
  | 46 => ⟨S288x32, .i32⟩
  | 47 => ⟨S288x32, .i1⟩
  | 48 => ⟨S288x32, .i32⟩
  | 49 => ⟨S_, .i32⟩
  | 50 => ⟨S288, .i32⟩
  | 51 => ⟨S_, .i32⟩
  | 52 => ⟨S288, .i32⟩
  | 53 => ⟨S288, .i32⟩
  | 54 => ⟨S288x512x1024, .f32⟩
  | 55 => ⟨S32x1024x2048, .f32⟩
  | 56 => ⟨S_, .i32⟩
  | 57 => ⟨S288, .i32⟩
  | 58 => ⟨S288, .i1⟩
  | 59 => ⟨S_, .i32⟩
  | 60 => ⟨S288, .i32⟩
  | 61 => ⟨S288, .i32⟩
  | 62 => ⟨S288, .i32⟩
  | 63 => ⟨S288x1, .i32⟩
  | 64 => ⟨S288x1024x2048, .f32⟩
  | 65 => ⟨S288x512x2048, .f32⟩
  | 66 => ⟨S32x2048, .f32⟩
  | 67 => ⟨S_, .i32⟩
  | 68 => ⟨S288, .i32⟩
  | 69 => ⟨S288, .i1⟩
  | 70 => ⟨S_, .i32⟩
  | 71 => ⟨S288, .i32⟩
  | 72 => ⟨S288, .i32⟩
  | 73 => ⟨S288, .i32⟩
  | 74 => ⟨S288x1, .i32⟩
  | 75 => ⟨S288x2048, .f32⟩
  | 76 => ⟨S288x1x2048, .f32⟩
  | 77 => ⟨S288x512x2048, .f32⟩
  | 78 => ⟨S288x512x2048, .f32⟩
  | 79 => ⟨S288x512x1024, .f32⟩
  | 80 => ⟨S_, .f32⟩
  | 81 => ⟨S288x512x1024, .f32⟩
  | 82 => ⟨S288x512x1024, .f32⟩
  | 83 => ⟨S288x512x1024, .f32⟩
  | 84 => ⟨S_, .f32⟩
  | 85 => ⟨S_, .f32⟩
  | 86 => ⟨S_, .f32⟩
  | 87 => ⟨S288x512x1024, .f32⟩
  | 88 => ⟨S288x512x1024, .f32⟩
  | 89 => ⟨S_, .f32⟩
  | 90 => ⟨S288x512x1024, .f32⟩
  | 91 => ⟨S288x512x1024, .f32⟩
  | 92 => ⟨S_, .f32⟩
  | 93 => ⟨S288x512x1024, .f32⟩
  | 94 => ⟨S288x512x1024, .f32⟩
  | 95 => ⟨S_, .f32⟩
  | 96 => ⟨S288x512x1024, .f32⟩
  | 97 => ⟨S288x512x1024, .f32⟩
  | 98 => ⟨S288x512x1024, .f32⟩
  | 99 => ⟨S288x512x1024, .f32⟩
  | 100 => ⟨S_, .f32⟩
  | 101 => ⟨S288x512x1024, .f32⟩
  | 102 => ⟨S288x512x1024, .f32⟩
  | 103 => ⟨S_, .f32⟩
  | 104 => ⟨S288x512x1024, .f32⟩
  | 105 => ⟨S288x512x1024, .f32⟩
  | 106 => ⟨S288x512x1024, .f32⟩
  | 107 => ⟨S288x512x1024, .f32⟩
  | 108 => ⟨S32x1024x1024, .f32⟩
  | 109 => ⟨S_, .i32⟩
  | 110 => ⟨S288, .i32⟩
  | 111 => ⟨S288, .i1⟩
  | 112 => ⟨S_, .i32⟩
  | 113 => ⟨S288, .i32⟩
  | 114 => ⟨S288, .i32⟩
  | 115 => ⟨S288, .i32⟩
  | 116 => ⟨S288x1, .i32⟩
  | 117 => ⟨S288x1024x1024, .f32⟩
  | 118 => ⟨S288x512x1024, .f32⟩
  | 119 => ⟨S32x1024, .f32⟩
  | 120 => ⟨S_, .i32⟩
  | 121 => ⟨S288, .i32⟩
  | 122 => ⟨S288, .i1⟩
  | 123 => ⟨S_, .i32⟩
  | 124 => ⟨S288, .i32⟩
  | 125 => ⟨S288, .i32⟩
  | 126 => ⟨S288, .i32⟩
  | 127 => ⟨S288x1, .i32⟩
  | _ => ⟨S8x128, .f32⟩

abbrev hbmTy0_1 (i : Nat) : BufTy := match i % 128 with
  | 0 => ⟨S288x1024, .f32⟩
  | 1 => ⟨S288x1x1024, .f32⟩
  | 2 => ⟨S288x512x1024, .f32⟩
  | 3 => ⟨S288x512x1024, .f32⟩
  | 4 => ⟨S288, .i32⟩
  | 5 => ⟨S1, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i1⟩
  | 16 => ⟨S_, .i1⟩
  | 17 => ⟨S_, .i32⟩
  | 18 => ⟨S_, .i32⟩
  | 19 => ⟨S_, .i32⟩
  | 20 => ⟨S288, .i32⟩
  | 21 => ⟨S288, .i1⟩
  | 22 => ⟨S288x1x1, .i1⟩
  | 23 => ⟨S_, .f32⟩
  | 24 => ⟨S_, .f32⟩
  | 25 => ⟨S288x512x1024, .i1⟩
  | 26 => ⟨S288x512x1024, .f32⟩
  | 27 => ⟨S288x512x1024, .f32⟩
  | 28 => ⟨S147456x1024, .f32⟩
  | _ => ⟨S8x128, .f32⟩

abbrev hbmTy (i : Nat) : BufTy := match i / 128 with
  | 0 => hbmTy0_0 i
  | 1 => hbmTy0_1 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_8 : Ref sig .tc := ⟨.hbm, 67, rfl⟩
abbrev main_v34 : Ref sig .tc := ⟨.hbm, 68, rfl⟩
abbrev main_v35 : Ref sig .tc := ⟨.hbm, 69, rfl⟩
abbrev main_c_9 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_10 : Ref sig .tc := ⟨.hbm, 84, rfl⟩
abbrev main_cst_11 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v48 : Ref sig .tc := ⟨.hbm, 91, rfl⟩
abbrev main_cst_12 : Ref sig .tc := ⟨.hbm, 92, rfl⟩
abbrev main_v49 : Ref sig .tc := ⟨.hbm, 93, rfl⟩
abbrev main_v50 : Ref sig .tc := ⟨.hbm, 94, rfl⟩
abbrev main_cst_13 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_14 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_16 : Ref sig .tc := ⟨.hbm, 109, rfl⟩
abbrev main_v62 : Ref sig .tc := ⟨.hbm, 110, rfl⟩
abbrev main_v63 : Ref sig .tc := ⟨.hbm, 111, rfl⟩
abbrev main_c_17 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_c_18 : Ref sig .tc := ⟨.hbm, 120, rfl⟩
abbrev main_v71 : Ref sig .tc := ⟨.hbm, 121, rfl⟩
abbrev main_v72 : Ref sig .tc := ⟨.hbm, 122, rfl⟩
abbrev main_c_19 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_20 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_c : Ref sig .tc := ⟨.hbm, 142, rfl⟩
abbrev main_call3_v6 : Ref sig .tc := ⟨.hbm, 143, rfl⟩
abbrev main_call3_v7 : Ref sig .tc := ⟨.hbm, 144, rfl⟩
abbrev main_call3_c_0 : Ref sig .tc := ⟨.hbm, 145, rfl⟩
abbrev main_call3_v8 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_21 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_v88 : Ref sig .tc := ⟨.hbm, 155, rfl⟩
abbrev main_v89 : Ref sig .tc := ⟨.hbm, 156, rfl⟩

abbrev nD : Nat := 1
abbrev τ : Topo := Topo.v7x

variable {F : FTy → Type} [FloatOps F]
-- ==== Proof.Rows.lean ====
/- The layer's mathematics on one row: the gated merge of the two branches, the layer norm, and the attention of one
   query row into its memory rows, over the extended reals. Both programs are shown to compute these. -/
module

public import Idealize.ShloMosaic.Lib.Pointwise

@[expose] public section

set_option maxRecDepth 16384

noncomputable section

namespace Cert.Rows

open Idealize.ShloMosaic

/-- The constants both programs print: the residual weight, the row length, the epsilon, the score scale, `-∞`. -/
def cRes : EReal := Ideal.ofBits .f32 0x3F9837F0#32
def cLen : EReal := Ideal.ofBits .f32 0x44800000#32
def cEps : EReal := Ideal.ofBits .f32 0x3727C5AC#32
def cScale : EReal := Ideal.ofBits .f32 0x3D800000#32
def cBot : EReal := Ideal.ofBits .f32 0xFF800000#32

/-- The sigmoid, as it is printed. -/
def gate (x : EReal) : EReal := Ideal.div 1 (1 + Ideal.exp (0 - x))

/-- A row times a matrix. -/
def rowMul {n m : Nat} (x : Fin n → EReal) (w : Fin n → Fin m → EReal) (j : Fin m) : EReal := ∑ k, x k * w k j

/-- Both branches projected and gated, added. -/
def merged (hm : Fin 1024 → EReal) (wm : Fin 1024 → Fin 1024 → EReal) (og : Fin 2048 → EReal)
    (wg : Fin 2048 → Fin 1024 → EReal) (gm gg : Fin 1024 → EReal) (j : Fin 1024) : EReal :=
  gate (gm j) * rowMul hm wm j + gate (gg j) * rowMul og wg j

/-- The residual of `h` with an update `u`. -/
def resid (h u : Fin 1024 → EReal) (j : Fin 1024) : EReal := cRes * h j + u j

def mean (a : Fin 1024 → EReal) : EReal := Ideal.div (∑ x, a x) cLen

/-- One over the root of the variance plus epsilon. -/
def invStd (a : Fin 1024 → EReal) : EReal :=
  Ideal.rsqrt (Ideal.div (∑ x, (a x - mean a) * (a x - mean a)) cLen + cEps)

/-- The layer norm of a row. -/
def norm (a g b : Fin 1024 → EReal) (j : Fin 1024) : EReal := (a j - mean a) * invStd a * g j + b j

/-- The scaled score of a query against the memory's row `x`. -/
def score (q : Fin 256 → EReal) (K : Fin 256 → Fin 256 → EReal) (x : Fin 256) : EReal :=
  (∑ y, q y * K x y) * cScale

def top (s : Fin 256 → EReal) : EReal := Finset.fold max cBot s Finset.univ

/-- The softmax weight of memory row `x`. -/
def weight (s : Fin 256 → EReal) (x : Fin 256) : EReal :=
  Ideal.div (Ideal.exp (s x - top s)) (∑ x, Ideal.exp (s x - top s))

/-- One head. -/
def head (q : Fin 256 → EReal) (K V : Fin 256 → Fin 256 → EReal) (j : Fin 256) : EReal :=
  ∑ x, weight (score q K) x * V x j

/-- Column `y` of head `h`. -/
def col (h : Fin 4) (y : Fin 256) : Fin 1024 := ⟨h * 256 + y, by omega⟩

/-- Head `h` of a query row over all the columns. -/
def headOf (q : Fin 1024 → EReal) (K V : Fin 256 → Fin 1024 → EReal) (h : Fin 4) (y : Fin 256) : EReal :=
  head (fun y => q (col h y)) (fun x y => K x (col h y)) (fun x y => V x (col h y)) y

/-- The four heads side by side. -/
def attend (q : Fin 1024 → EReal) (K V : Fin 256 → Fin 1024 → EReal) (j : Fin 1024) : EReal :=
  headOf q K V ⟨j / 256, by omega⟩ ⟨j % 256, by omega⟩

/-- The stream after the mixer and its norm. -/
def mixed (hm : Fin 1024 → EReal) (wm : Fin 1024 → Fin 1024 → EReal) (og : Fin 2048 → EReal)
    (wg : Fin 2048 → Fin 1024 → EReal) (gm gg : Fin 1024 → EReal) (h0 : Fin 1024 → EReal)
    (wo : Fin 1024 → Fin 1024 → EReal) (g b : Fin 1024 → EReal) : Fin 1024 → EReal :=
  norm (resid h0 (rowMul (merged hm wm og wg gm gg) wo)) g b

/-- The stream after the attention and its norm. -/
def attended (h : Fin 1024 → EReal) (wq : Fin 1024 → Fin 1024 → EReal) (K V : Fin 256 → Fin 1024 → EReal)
    (wo : Fin 1024 → Fin 1024 → EReal) (g b : Fin 1024 → EReal) : Fin 1024 → EReal :=
  norm (resid h (rowMul (attend (rowMul h wq) K V) wo)) g b

theorem attend_col (q : Fin 1024 → EReal) (K V : Fin 256 → Fin 1024 → EReal) (h : Fin 4) (y : Fin 256) :
    attend q K V (col h y) = headOf q K V h y := by
  unfold attend
  congr 1 <;> ext <;> simp only [col] <;> omega

/-- A column is its head's column. -/
theorem col_split (j : Fin 1024) : col ⟨j / 256, by omega⟩ ⟨j % 256, by omega⟩ = j := by
  ext; simp only [col]; omega

end Cert.Rows
-- ==== Proof.MixBody.lean ====
/- What the pure values of the mixer-and-attention kernel are at an index: the row functions of `Rows`. The two halves
   of a block are printed by different cuts of the same mathematics, so each cut is read once. -/
module

public import proofs.«01_k».proof.Proof.Gen.KernelIdeal.Skeleton
public import proofs.«01_k».proof.Proof.Rows

@[expose] public section

set_option maxRecDepth 16384

noncomputable section

namespace Cert.Mix

open Cert.KernelIdeal Cert.KernelIdeal.Gen Cert.Rows Idealize.ShloMosaic Idealize.SL.Sem

/-- Row `r` of a matrix. -/
abbrev row {n m : Nat} (v : (⟨2, ![n, m]⟩ : Shape).Idx → EReal) (r : Fin n) : Fin m → EReal :=
  fun k => v (ix2 r k)

/-- A matrix by its two coordinates. -/
abbrev mat {n m : Nat} (v : (⟨2, ![n, m]⟩ : Shape).Idx → EReal) : Fin n → Fin m → EReal :=
  fun r k => v (ix2 r k)

section Values

variable (a0 : FVec Ideal S256x1024 .bf16) (w0 : FVec Ideal S1024x1024 .bf16) (a1 : FVec Ideal S256x2048 .bf16)
  (w1 : FVec Ideal S2048x1024 .bf16) (a2 a3 : FVec Ideal S256x1024 .bf16) (a4 : FVec Ideal S256x1024 .f32)
  (u v : FVec Ideal S256x1024 .f32) (g b : FVec Ideal S1x1024 .f32) (z : FVec Ideal S256x1024 .bf16)
  (c d e : FVec Ideal S256x256 .f32) (q k s : FVec Ideal S256x256 .bf16)
  (r : Fin 256) (j : Fin 1024) (y : Fin 256)

theorem pay5_at : (k0_pay5 (F := Ideal) a0 w0 a1 w1 a2 a3 (ix2 r j) : EReal)
    = merged (row a0 r) (mat w0) (row a1 r) (mat w1) (row a2 r) (row a3 r) j := by
  pointwise [k0_pay5]; rfl

theorem pay7_at : (k0_pay7 (F := Ideal) a0 w0 a1 w1 a2 a3 (ix2 r j) : EReal)
    = merged (row a0 r) (mat w0) (row a1 r) (mat w1) (row a2 r) (row a3 r) j := by
  pointwise [k0_pay7]; rfl

theorem pay6_at : k0_pay6 u w0 (ix2 r j) = rowMul (row u r) (mat w0) j := by
  pointwise [k0_pay6]; rfl

theorem pay8_at : k0_pay8 u v g b (ix2 r j) = norm (resid (row v r) (row u r)) (row g 0) (row b 0) j := by
  pointwise [k0_pay8]; rfl

theorem pay9_at : k0_pay9 z w0 v (ix2 r j) = resid (row v r) (rowMul (row z r) (mat w0)) j := by
  pointwise [k0_pay9]; rfl

theorem pay13_at : k0_pay13 (k0_pay9 z w0 v) (k0_pay10 g) (k0_pay11 b) (k0_pay12 z w0 v) (ix2 r j)
    = norm (resid (row v r) (rowMul (row z r) (mat w0))) (row g 0) (row b 0) j := by
  have h : row (k0_pay9 z w0 v) r = resid (row v r) (rowMul (row z r) (mat w0)) := by
    funext j; exact pay9_at w0 v z r j
  rw [← h]
  pointwise [k0_pay13, k0_pay10, k0_pay11, k0_pay12]; rfl

theorem pay14_at : k0_pay14 u w0 (ix2 r j) = rowMul (row u r) (mat w0) j := by
  pointwise [k0_pay14]; rfl

theorem pay15_at (n : FVec Ideal S256 .f32) : k0_pay15 u g b n w0 (ix2 r j)
    = rowMul (row (k0_pay13 u g b n) r) (mat w0) j := by
  pointwise [k0_pay15]; rfl

/-- The first head of the first half. -/
theorem pay18_at : k0_pay18 s (k0_pay16 u w0 k) (k0_pay17 u w0 k) (ix2 r y)
    = head (fun y => k0_pay14 u w0 (ix2 r (col 0 y))) (mat k) (mat s) y := by
  pointwise [k0_pay18, k0_pay17, k0_pay16]
  simp only [head, weight, score, top, mat, col, cScale, cBot, Fin.val_zero, Nat.zero_mul, Nat.zero_add]
  rfl

theorem pay19_at : k0_pay19 u k s (ix2 r y) = head (fun y => u (ix2 r (col 1 y))) (mat k) (mat s) y := by
  pointwise [k0_pay19]; rfl

theorem pay20_at : k0_pay20 u k s (ix2 r y) = head (fun y => u (ix2 r (col 2 y))) (mat k) (mat s) y := by
  pointwise [k0_pay20]; rfl

theorem pay23_at : k0_pay23 u k s (ix2 r y) = head (fun y => u (ix2 r (col 0 y))) (mat k) (mat s) y := by
  pointwise [k0_pay23]
  simp only [head, weight, score, top, mat, col, cScale, cBot, Fin.val_zero, Nat.zero_mul, Nat.zero_add]
  rfl

theorem pay25_at : k0_pay25 (k0_pay24 u) k s (ix2 r y) = head (fun y => u (ix2 r (col 1 y))) (mat k) (mat s) y := by
  pointwise [k0_pay25, k0_pay24]; rfl

theorem pay26_at : k0_pay26 u k s (ix2 r y) = head (fun y => u (ix2 r (col 2 y))) (mat k) (mat s) y := by
  pointwise [k0_pay26]; rfl

/-- Four pieces side by side, where each is its head's values. -/
theorem pay22_at (f : Fin 4 → Fin 256 → EReal) (h0 : ∀ y, c (ix2 r y) = f 0 y) (h1 : ∀ y, d (ix2 r y) = f 1 y)
    (h2 : ∀ y, e (ix2 r y) = f 2 y)
    (h3 : ∀ y, head (fun y => u (ix2 r (col 3 y))) (mat k) (mat s) y = f 3 y) (h : Fin 4) :
    k0_pay22 c d e (k0_pay21 u) k s (ix2 r (col h y)) = f h y := by
  have hy := y.isLt
  fin_cases h
  · refine Eq.trans ?_ (h0 y)
    pointwise [k0_pay22]
    rw [dif_pos (by simp [col])]; congr 2; ext; simp [col]
  · refine Eq.trans ?_ (h1 y)
    pointwise [k0_pay22]
    rw [dif_neg (by simp [col]), dif_pos (by simp [col])]; congr 2; ext; simp [col]
  · refine Eq.trans ?_ (h2 y)
    pointwise [k0_pay22]
    rw [dif_neg (by simp [col]; omega), dif_neg (by simp [col]; omega), dif_pos (by simp [col]; omega)]
    congr 2; ext; simp [col]; omega
  · refine Eq.trans ?_ (h3 y)
    pointwise [k0_pay22, k0_pay21]
    rw [dif_neg (by simp [col]; omega), dif_neg (by simp [col]; omega), dif_neg (by simp [col]; omega)]
    have hj : ∀ p, (⟨(col 3 y : Nat) - 256 - 256 - 256, p⟩ : Fin 256) = y := by intro p; ext; simp [col]; omega
    simp only [hj]
    rfl

/-- The second half's attention and output projection in one. -/
theorem pay28_at (f : Fin 4 → Fin 256 → EReal) (h0 : ∀ y, c (ix2 r y) = f 0 y) (h1 : ∀ y, d (ix2 r y) = f 1 y)
    (h2 : ∀ y, e (ix2 r y) = f 2 y)
    (h3 : ∀ y, head (fun y => u (ix2 r (col 3 y))) (mat k) (mat s) y = f 3 y) :
    k0_pay28 c d e s (k0_pay27 u k) w0 (ix2 r j)
      = rowMul (fun j : Fin 1024 => f ⟨j / 256, by omega⟩ ⟨j % 256, by omega⟩) (mat w0) j := by
  have key : k0_pay28 c d e s (k0_pay27 u k) w0 (ix2 r j)
      = rowMul (row (k0_pay22 c d e (k0_pay21 u) k s) r) (mat w0) j := by
    unfold k0_pay28 k0_pay27
    pointwise []
    simp only [rowMul, row, mat]
    refine Finset.sum_congr rfl fun x _ => ?_
    pointwise [k0_pay22, k0_pay21]
  rw [key]
  congr 1
  funext x
  rw [← pay22_at u c d e k s r ⟨x % 256, by omega⟩ f h0 h1 h2 h3 ⟨x / 256, by omega⟩, col_split]

theorem pay33_at : k0_pay33 g b (k0_pay31 u v w0) (k0_pay32 u v w0) (ix2 r j)
    = norm (resid (row u r) (rowMul (row v r) (mat w0))) (row g 0) (row b 0) j := by
  pointwise [k0_pay33, k0_pay31, k0_pay32]; rfl

theorem pay34_at : k0_pay34 u v g b (ix2 r j) = norm (resid (row u r) (row v r)) (row g 0) (row b 0) j := by
  pointwise [k0_pay34]; rfl

end Values

end Cert.Mix
-- ==== Proof.MixHalves.lean ====
/- The two halves of a block of the attended stream, each composed of the kernel's pure values, are the row functions of
   `Rows` on every row. -/
module

public import proofs.«01_k».proof.Proof.MixBody

@[expose] public section

set_option maxRecDepth 16384

noncomputable section

namespace Cert.Mix

open Cert.KernelIdeal Cert.KernelIdeal.Gen Cert.Rows Idealize.ShloMosaic Idealize.SL.Sem

variable (a0 : FVec Ideal S256x1024 .bf16) (w0 : FVec Ideal S1024x1024 .bf16) (a1 : FVec Ideal S256x2048 .bf16)
  (w1 : FVec Ideal S2048x1024 .bf16) (a2 a3 : FVec Ideal S256x1024 .bf16) (wm : FVec Ideal S1024x1024 .bf16)
  (a4 : FVec Ideal S256x1024 .f32) (g b : FVec Ideal S1x1024 .f32) (wq : FVec Ideal S1024x1024 .bf16)
  (k0 k1 k2 k3 v0 v1 v2 v3 : FVec Ideal S256x256 .bf16) (wo : FVec Ideal S1024x1024 .bf16)
  (g' b' : FVec Ideal S1x1024 .f32)

/-- The mixer's stream over the first half. -/
abbrev mixedA : FVec Ideal S256x1024 .f32 := k0_pay8 (k0_pay6 (k0_pay5 a0 w0 a1 w1 a2 a3) wm) a4 g b

/-- The four heads over the first half, from the mixer's stream `h`. -/
abbrev headsA (h : FVec Ideal S256x1024 .f32) : FVec Ideal S256x1024 .f32 :=
  k0_pay22 (k0_pay18 v0 (k0_pay16 h wq k0) (k0_pay17 h wq k0)) (k0_pay19 (k0_pay14 h wq) k1 v1)
    (k0_pay20 (k0_pay14 h wq) k2 v2) (k0_pay21 (k0_pay14 h wq)) k3 v3

/-- What is stored over the first half, from the mixer's stream `h`. -/
abbrev outA (h : FVec Ideal S256x1024 .f32) : FVec Ideal S256x1024 .f32 :=
  k0_pay33 (k0_pay29 g') (k0_pay30 b') (k0_pay31 h (headsA wq k0 k1 k2 k3 v0 v1 v2 v3 h) wo)
    (k0_pay32 h (headsA wq k0 k1 k2 k3 v0 v1 v2 v3 h) wo)

/-- The row before the second half's first norm. -/
abbrev preB : FVec Ideal S256x1024 .f32 := k0_pay9 (k0_pay7 a0 w0 a1 w1 a2 a3) wm a4

/-- That row's sum. -/
abbrev sumB : FVec Ideal S256 .f32 := k0_pay12 (k0_pay7 a0 w0 a1 w1 a2 a3) wm a4

/-- The mixer's stream over the second half. -/
abbrev mixedB : FVec Ideal S256x1024 .f32 :=
  k0_pay13 (preB a0 w0 a1 w1 a2 a3 wm a4) (k0_pay10 g) (k0_pay11 b) (sumB a0 w0 a1 w1 a2 a3 wm a4)

/-- The queries over the second half. -/
abbrev queryB : FVec Ideal S256x1024 .f32 :=
  k0_pay15 (preB a0 w0 a1 w1 a2 a3 wm a4) (k0_pay10 g) (k0_pay11 b) (sumB a0 w0 a1 w1 a2 a3 wm a4) wq

/-- The attention's update over the second half, from the queries `q`. -/
abbrev updateB (q : FVec Ideal S256x1024 .f32) : FVec Ideal S256x1024 .f32 :=
  k0_pay28 (k0_pay23 q k0 v0) (k0_pay25 (k0_pay24 q) k1 v1) (k0_pay26 q k2 v2) v3 (k0_pay27 q k3) wo

section Rows

variable (K V : FVec Ideal S256x1024 .bf16)
  (hk0 : ∀ x y, k0 (ix2 x y) = K (ix2 x (col 0 y))) (hk1 : ∀ x y, k1 (ix2 x y) = K (ix2 x (col 1 y)))
  (hk2 : ∀ x y, k2 (ix2 x y) = K (ix2 x (col 2 y))) (hk3 : ∀ x y, k3 (ix2 x y) = K (ix2 x (col 3 y)))
  (hv0 : ∀ x y, v0 (ix2 x y) = V (ix2 x (col 0 y))) (hv1 : ∀ x y, v1 (ix2 x y) = V (ix2 x (col 1 y)))
  (hv2 : ∀ x y, v2 (ix2 x y) = V (ix2 x (col 2 y))) (hv3 : ∀ x y, v3 (ix2 x y) = V (ix2 x (col 3 y)))
  (r : Fin 256) (j : Fin 1024)

theorem mixedA_row : row (mixedA a0 w0 a1 w1 a2 a3 wm a4 g b) r
    = mixed (row a0 r) (mat w0) (row a1 r) (mat w1) (row a2 r) (row a3 r) (row a4 r) (mat wm) (row g 0) (row b 0) := by
  have h5 : row (k0_pay5 (F := Ideal) a0 w0 a1 w1 a2 a3) r
      = merged (row a0 r) (mat w0) (row a1 r) (mat w1) (row a2 r) (row a3 r) :=
    funext fun j => pay5_at a0 w0 a1 w1 a2 a3 r j
  have h6 : row (k0_pay6 (k0_pay5 (F := Ideal) a0 w0 a1 w1 a2 a3) wm) r
      = rowMul (merged (row a0 r) (mat w0) (row a1 r) (mat w1) (row a2 r) (row a3 r)) (mat wm) := by
    rw [← h5]; exact funext fun j => pay6_at wm _ r j
  funext j
  rw [mixed, ← h6]
  exact pay8_at _ a4 g b r j

theorem mixedB_row : row (mixedB a0 w0 a1 w1 a2 a3 wm a4 g b) r
    = mixed (row a0 r) (mat w0) (row a1 r) (mat w1) (row a2 r) (row a3 r) (row a4 r) (mat wm) (row g 0) (row b 0) := by
  have h7 : row (k0_pay7 (F := Ideal) a0 w0 a1 w1 a2 a3) r
      = merged (row a0 r) (mat w0) (row a1 r) (mat w1) (row a2 r) (row a3 r) :=
    funext fun j => pay7_at a0 w0 a1 w1 a2 a3 r j
  funext j
  rw [mixed, ← h7]
  exact pay13_at wm a4 g b _ r j

include hk0 hk1 hk2 hk3 hv0 hv1 hv2 hv3

/-- A head over slices of the memory is the head's columns of the whole. -/
theorem head_slices (q : FVec Ideal S256x1024 .f32) (y : Fin 256) :
    head (fun y => q (ix2 r (col 0 y))) (mat k0) (mat v0) y = headOf (row q r) (mat K) (mat V) 0 y ∧
    head (fun y => q (ix2 r (col 1 y))) (mat k1) (mat v1) y = headOf (row q r) (mat K) (mat V) 1 y ∧
    head (fun y => q (ix2 r (col 2 y))) (mat k2) (mat v2) y = headOf (row q r) (mat K) (mat V) 2 y ∧
    head (fun y => q (ix2 r (col 3 y))) (mat k3) (mat v3) y = headOf (row q r) (mat K) (mat V) 3 y := by
  unfold headOf mat
  simp only [hk0, hk1, hk2, hk3, hv0, hv1, hv2, hv3, and_self]

theorem outA_at (h : FVec Ideal S256x1024 .f32) :
    outA wq k0 k1 k2 k3 v0 v1 v2 v3 wo g' b' h (ix2 r j)
      = attended (row h r) (mat wq) (mat K) (mat V) (mat wo) (row g' 0) (row b' 0) j := by
  have hq : row (k0_pay14 (F := Ideal) h wq) r = rowMul (row h r) (mat wq) := funext fun j => pay14_at wq h r j
  have hh := head_slices k0 k1 k2 k3 v0 v1 v2 v3 K V hk0 hk1 hk2 hk3 hv0 hv1 hv2 hv3 r (k0_pay14 h wq)
  have ha : row (headsA wq k0 k1 k2 k3 v0 v1 v2 v3 h) r
      = attend (rowMul (row h r) (mat wq)) (mat K) (mat V) := by
    funext x
    rw [← hq]
    have := pay22_at (k0_pay14 h wq) (k0_pay18 v0 (k0_pay16 h wq k0) (k0_pay17 h wq k0))
      (k0_pay19 (k0_pay14 h wq) k1 v1) (k0_pay20 (k0_pay14 h wq) k2 v2) k3 v3 r ⟨x % 256, by omega⟩
      (headOf (row (k0_pay14 (F := Ideal) h wq) r) (mat K) (mat V))
      (fun y => (pay18_at wq h k0 v0 r y).trans (hh y).1) (fun y => (pay19_at _ k1 v1 r y).trans (hh y).2.1)
      (fun y => (pay20_at _ k2 v2 r y).trans (hh y).2.2.1) (fun y => (hh y).2.2.2) ⟨x / 256, by omega⟩
    rw [col_split] at this
    exact this
  rw [attended, ← ha]
  refine (pay33_at wo h _ (k0_pay29 g') (k0_pay30 b') r j).trans ?_
  congr 1 <;> funext x <;> pointwise [k0_pay29, k0_pay30]

theorem outB_at (h q : FVec Ideal S256x1024 .f32) (hq : row q r = rowMul (row h r) (mat wq)) :
    k0_pay34 h (updateB k0 k1 k2 k3 v0 v1 v2 v3 wo q) g' b' (ix2 r j)
      = attended (row h r) (mat wq) (mat K) (mat V) (mat wo) (row g' 0) (row b' 0) j := by
  have hh := head_slices k0 k1 k2 k3 v0 v1 v2 v3 K V hk0 hk1 hk2 hk3 hv0 hv1 hv2 hv3 r q
  have ha : row (updateB k0 k1 k2 k3 v0 v1 v2 v3 wo q) r
      = rowMul (attend (rowMul (row h r) (mat wq)) (mat K) (mat V)) (mat wo) := by
    funext x
    rw [← hq]
    exact pay28_at wo q _ _ _ k3 v3 r x (headOf (row q r) (mat K) (mat V))
      (fun y => (pay23_at q k0 v0 r y).trans (hh y).1) (fun y => (pay25_at q k1 v1 r y).trans (hh y).2.1)
      (fun y => (pay26_at q k2 v2 r y).trans (hh y).2.2.1) (fun y => (hh y).2.2.2)
  rw [attended, ← ha]
  exact pay34_at h _ g' b' r j

end Rows

/-- The second half's queries are its stream times the query matrix. -/
theorem queryB_row (r : Fin 256) : row (queryB a0 w0 a1 w1 a2 a3 wm a4 g b wq) r
    = rowMul (row (mixedB a0 w0 a1 w1 a2 a3 wm a4 g b) r) (mat wq) :=
  funext fun j => pay15_at wq _ _ _ r j _

end Cert.Mix
-- ==== Proof.MixBlock.lean ====
/- What a block's two stores leave in the attended stream's block: each half, and so every row of the block, at the row
   functions of `Rows` over the input blocks. -/
module

public import proofs.«01_k».proof.Proof.MixHalves
public import Idealize.ShloMosaic.Lib.Pipeline.FrameBody
public import Idealize.ShloMosaic.Lib.Pipeline.Value

@[expose] public section

set_option maxRecDepth 16384

noncomputable section

namespace Cert.Mix

open Cert.KernelIdeal Cert.KernelIdeal.Gen Cert.Rows Idealize.ShloMosaic Idealize.SL.Sem Idealize.ShloMosaic.Tactic
open Idealize.ShloMosaic.TcCoe

section Block

variable (x0 : Vec Ideal S512x1024 .bf16) (x1 : Vec Ideal S512x2048 .bf16) (x2 x3 : Vec Ideal S512x1024 .bf16)
  (x4 : Vec Ideal S512x1024 .f32) (x5 : Vec Ideal S1024x1024 .bf16) (x6 : Vec Ideal S2048x1024 .bf16)
  (x7 : Vec Ideal S1024x1024 .bf16) (x8 x9 : Vec Ideal S1x1024 .f32) (x10 x11 : Vec Ideal S256x1024 .bf16)
  (x12 x13 : Vec Ideal S1024x1024 .bf16) (x14 x15 : Vec Ideal S1x1024 .f32)

/-- The whole block's rows, as the mathematics has them. -/
def blockOut : S512x1024.Idx → EReal := fun i =>
  attended (mixed (row x0 (i 0)) (mat x5) (row x1 (i 0)) (mat x6) (row x2 (i 0)) (row x3 (i 0)) (row x4 (i 0)) (mat x7)
    (row x8 0) (row x9 0)) (mat x12) (mat x10) (mat x11) (mat x13) (row x14 0) (row x15 0) (i 1)

/-- The two halves of a block, and the loads of whole blocks and of the memory's heads. -/
abbrev lo {φ : EltTy} (x : Vec Ideal S512x1024 φ) : Vec Ideal S256x1024 φ :=
  View.ld x (Rect.unit ![0, 0] S256x1024.size inb_S512x1024_S256x1024_0_0)
abbrev hi {φ : EltTy} (x : Vec Ideal S512x1024 φ) : Vec Ideal S256x1024 φ :=
  View.ld x (Rect.unit ![256, 0] S256x1024.size inb_S512x1024_S256x1024_256_0)
abbrev lo2 (x : Vec Ideal S512x2048 .bf16) : Vec Ideal S256x2048 .bf16 :=
  View.ld x (Rect.unit ![0, 0] S256x2048.size inb_S512x2048_S256x2048_0_0)
abbrev hi2 (x : Vec Ideal S512x2048 .bf16) : Vec Ideal S256x2048 .bf16 :=
  View.ld x (Rect.unit ![256, 0] S256x2048.size inb_S512x2048_S256x2048_256_0)
abbrev sq (x : Vec Ideal S1024x1024 .bf16) : Vec Ideal S1024x1024 .bf16 :=
  View.ld x (Rect.unit ![0, 0] S1024x1024.size inb_S1024x1024_S1024x1024_0_0)
abbrev sq2 (x : Vec Ideal S2048x1024 .bf16) : Vec Ideal S2048x1024 .bf16 :=
  View.ld x (Rect.unit ![0, 0] S2048x1024.size inb_S2048x1024_S2048x1024_0_0)
abbrev one (x : Vec Ideal S1x1024 .f32) : Vec Ideal S1x1024 .f32 :=
  View.ld x (Rect.unit ![0, 0] S1x1024.size inb_S1x1024_S1x1024_0_0)
abbrev hd0 (x : Vec Ideal S256x1024 .bf16) : Vec Ideal S256x256 .bf16 :=
  View.ld x (Rect.unit ![0, 0] S256x256.size inb_S256x1024_S256x256_0_0)
abbrev hd1 (x : Vec Ideal S256x1024 .bf16) : Vec Ideal S256x256 .bf16 :=
  View.ld x (Rect.unit ![0, 256] S256x256.size inb_S256x1024_S256x256_0_256)
abbrev hd2 (x : Vec Ideal S256x1024 .bf16) : Vec Ideal S256x256 .bf16 :=
  View.ld x (Rect.unit ![0, 512] S256x256.size inb_S256x1024_S256x256_0_512)
abbrev hd3 (x : Vec Ideal S256x1024 .bf16) : Vec Ideal S256x256 .bf16 :=
  View.ld x (Rect.unit ![0, 768] S256x256.size inb_S256x1024_S256x256_0_768)

/-- What is stored over the first half. -/
abbrev storedA : FVec Ideal S256x1024 .f32 :=
  outA (sq x12) (hd0 x10) (hd1 x10) (hd2 x10) (hd3 x10) (hd0 x11) (hd1 x11) (hd2 x11) (hd3 x11) (sq x13)
    (one x14) (one x15)
    (mixedA (lo x0) (sq x5) (lo2 x1) (sq2 x6) (lo x2) (lo x3) (sq x7) (lo x4) (one x8) (one x9))

/-- What is stored over the second half. -/
abbrev storedB : FVec Ideal S256x1024 .f32 :=
  k0_pay34 (mixedB (hi x0) (sq x5) (hi2 x1) (sq2 x6) (hi x2) (hi x3) (sq x7) (hi x4) (one x8) (one x9))
    (updateB (hd0 x10) (hd1 x10) (hd2 x10) (hd3 x10) (hd0 x11) (hd1 x11) (hd2 x11) (hd3 x11) (sq x13)
      (queryB (hi x0) (sq x5) (hi2 x1) (sq2 x6) (hi x2) (hi x3) (sq x7) (hi x4) (one x8) (one x9) (sq x12)))
    (one x14) (one x15)

/-- The two stores, the last first. -/
abbrev stores : List (View.Piece (Elt Ideal) S512x1024 .f32) :=
  [⟨Rect.unit ![256, 0] S256x1024.size inb_S512x1024_S256x1024_256_0,
      storedB x0 x1 x2 x3 x4 x5 x6 x7 x8 x9 x10 x11 x12 x13 x14 x15⟩,
   ⟨Rect.unit ![0, 0] S256x1024.size inb_S512x1024_S256x1024_0_0,
      storedA x0 x1 x2 x3 x4 x5 x6 x7 x8 x9 x10 x11 x12 x13 x14 x15⟩]

/-- A load of a box of a matrix, at an index: the matrix at the box's corner plus the index. -/
theorem ld_at {n m n' m' : Nat} {e : EltTy} (x : (⟨2, ![n, m]⟩ : Shape).Idx → Elt Ideal e) (o p : Nat)
    (inb : ∀ a, (![o, p] : Fin 2 → Nat) a + (![n', m'] : Fin 2 → Nat) a ≤ (![n, m] : Fin 2 → Nat) a)
    (r : Fin n') (k : Fin m') (r' : Fin n) (k' : Fin m) (hr : o + r = r'.val) (hk : p + k = k'.val) :
    View.ld x (Rect.unit (s := ⟨2, ![n, m]⟩) ![o, p] ![n', m'] inb) (ix2 r k) = x (ix2 r' k') := by
  refine congrArg x (funext fun a => Fin.ext ?_)
  fin_cases a
  · show o + 1 * r.val = r'.val; omega
  · show p + 1 * k.val = k'.val; omega

theorem hd_at (x : Vec Ideal S256x1024 .bf16) (a y : Fin 256) :
    hd0 x (ix2 a y) = x (ix2 a (col 0 y)) ∧ hd1 x (ix2 a y) = x (ix2 a (col 1 y)) ∧
    hd2 x (ix2 a y) = x (ix2 a (col 2 y)) ∧ hd3 x (ix2 a y) = x (ix2 a (col 3 y)) := by
  refine ⟨?_, ?_, ?_, ?_⟩ <;> exact ld_at x _ _ _ a y _ _ (by simp) (by simp [col])

theorem sq_eq (x : Vec Ideal S1024x1024 .bf16) : sq x = x := by
  refine View.ld_unit_zero (S := S1024x1024) ?_ _ x; funext a; fin_cases a <;> rfl

theorem sq2_eq (x : Vec Ideal S2048x1024 .bf16) : sq2 x = x := by
  refine View.ld_unit_zero (S := S2048x1024) ?_ _ x; funext a; fin_cases a <;> rfl

theorem one_eq (x : Vec Ideal S1x1024 .f32) : one x = x := by
  refine View.ld_unit_zero (S := S1x1024) ?_ _ x; funext a; fin_cases a <;> rfl

/-- Row `r` of each half. -/
def rowLo (r : Fin 256) : Fin 512 := ⟨r, by omega⟩
def rowHi (r : Fin 256) : Fin 512 := ⟨256 + r, by omega⟩

/-- A row of a half is the block's row. -/
theorem lo_at {e : EltTy} (x : Vec Ideal S512x1024 e) (r : Fin 256) (k : Fin 1024) :
    lo x (ix2 r k) = x (ix2 (rowLo r) k) :=
  ld_at x 0 0 _ r k (rowLo r) k (by simp [rowLo]) (by simp)
theorem hi_at {e : EltTy} (x : Vec Ideal S512x1024 e) (r : Fin 256) (k : Fin 1024) :
    hi x (ix2 r k) = x (ix2 (rowHi r) k) :=
  ld_at x 256 0 _ r k (rowHi r) k rfl (by simp)
theorem lo2_at (x : Vec Ideal S512x2048 .bf16) (r : Fin 256) (k : Fin 2048) :
    lo2 x (ix2 r k) = x (ix2 (rowLo r) k) :=
  ld_at x 0 0 _ r k (rowLo r) k (by simp [rowLo]) (by simp)
theorem hi2_at (x : Vec Ideal S512x2048 .bf16) (r : Fin 256) (k : Fin 2048) :
    hi2 x (ix2 r k) = x (ix2 (rowHi r) k) :=
  ld_at x 256 0 _ r k (rowHi r) k rfl (by simp)

theorem storedA_at (r : Fin 256) (j : Fin 1024) :
    storedA x0 x1 x2 x3 x4 x5 x6 x7 x8 x9 x10 x11 x12 x13 x14 x15 (ix2 r j)
      = blockOut x0 x1 x2 x3 x4 x5 x6 x7 x8 x9 x10 x11 x12 x13 x14 x15 (ix2 (rowLo r) j) := by
  unfold storedA
  rw [outA_at (sq x12) (hd0 x10) (hd1 x10) (hd2 x10) (hd3 x10) (hd0 x11) (hd1 x11) (hd2 x11) (hd3 x11) (sq x13)
    (one x14) (one x15) x10 x11 (fun a y => (hd_at x10 a y).1) (fun a y => (hd_at x10 a y).2.1)
    (fun a y => (hd_at x10 a y).2.2.1) (fun a y => (hd_at x10 a y).2.2.2) (fun a y => (hd_at x11 a y).1)
    (fun a y => (hd_at x11 a y).2.1) (fun a y => (hd_at x11 a y).2.2.1) (fun a y => (hd_at x11 a y).2.2.2) r j,
    mixedA_row, sq_eq, sq_eq, sq_eq, sq_eq, sq2_eq, one_eq, one_eq, one_eq, one_eq,
    show row (lo x0) r = row x0 _ from funext (lo_at x0 r), show row (lo x2) r = row x2 _ from funext (lo_at x2 r),
    show row (lo x3) r = row x3 _ from funext (lo_at x3 r), show row (lo x4) r = row x4 _ from funext (lo_at x4 r),
    show row (lo2 x1) r = row x1 _ from funext (lo2_at x1 r)]
  rfl

theorem storedB_at (r : Fin 256) (j : Fin 1024) :
    storedB x0 x1 x2 x3 x4 x5 x6 x7 x8 x9 x10 x11 x12 x13 x14 x15 (ix2 r j)
      = blockOut x0 x1 x2 x3 x4 x5 x6 x7 x8 x9 x10 x11 x12 x13 x14 x15 (ix2 (rowHi r) j) := by
  unfold storedB
  rw [outB_at (sq x12) (hd0 x10) (hd1 x10) (hd2 x10) (hd3 x10) (hd0 x11) (hd1 x11) (hd2 x11) (hd3 x11) (sq x13)
    (one x14) (one x15) x10 x11 (fun a y => (hd_at x10 a y).1) (fun a y => (hd_at x10 a y).2.1)
    (fun a y => (hd_at x10 a y).2.2.1) (fun a y => (hd_at x10 a y).2.2.2) (fun a y => (hd_at x11 a y).1)
    (fun a y => (hd_at x11 a y).2.1) (fun a y => (hd_at x11 a y).2.2.1) (fun a y => (hd_at x11 a y).2.2.2) r j _ _
    (queryB_row _ _ _ _ _ _ _ _ _ _ _ r),
    mixedB_row, sq_eq, sq_eq, sq_eq, sq_eq, sq2_eq, one_eq, one_eq, one_eq, one_eq,
    show row (hi x0) r = row x0 _ from funext (hi_at x0 r), show row (hi x2) r = row x2 _ from funext (hi_at x2 r),
    show row (hi x3) r = row x3 _ from funext (hi_at x3 r), show row (hi x4) r = row x4 _ from funext (hi_at x4 r),
    show row (hi2 x1) r = row x1 _ from funext (hi2_at x1 r)]
  rfl

/-- Every store agrees with the block's rows where it lands. -/
theorem stores_agree : ∀ p ∈ stores x0 x1 x2 x3 x4 x5 x6 x7 x8 x9 x10 x11 x12 x13 x14 x15, ∀ x : p.1.shape.Idx,
    p.2 x = blockOut x0 x1 x2 x3 x4 x5 x6 x7 x8 x9 x10 x11 x12 x13 x14 x15 (p.1.emb x) := by
  intro p hp
  simp only [stores, List.mem_cons, List.not_mem_nil, or_false] at hp
  have e : ∀ (i : S256x1024.Idx), i = ix2 (i 0) (i 1) := fun i => by funext a; fin_cases a <;> rfl
  rcases hp with rfl | rfl
  · intro (i : S256x1024.Idx)
    rw [e i]
    refine (storedB_at x0 x1 x2 x3 x4 x5 x6 x7 x8 x9 x10 x11 x12 x13 x14 x15 (i 0) (i 1)).trans (congrArg _ ?_)
    funext a; apply Fin.ext
    fin_cases a
    · show 256 + (i 0).val = 256 + 1 * (i 0).val; omega
    · show (i 1).val = 0 + 1 * (i 1).val; omega
  · intro (i : S256x1024.Idx)
    rw [e i]
    refine (storedA_at x0 x1 x2 x3 x4 x5 x6 x7 x8 x9 x10 x11 x12 x13 x14 x15 (i 0) (i 1)).trans (congrArg _ ?_)
    funext a; apply Fin.ext
    fin_cases a
    · show (i 0).val = 0 + 1 * (i 0).val; omega
    · show (i 1).val = 0 + 1 * (i 1).val; omega

end Block

end Cert.Mix
-- ==== Proof.MixStores.lean ====
/- The kernel's run stores the two halves of `MixBlock` at every point, whether or not it is the one that clears the
   running counts, so it leaves the block's rows. -/
module

public import proofs.«01_k».proof.Proof.Gen.KernelIdeal.Frame
public import proofs.«01_k».proof.Proof.MixBlock

@[expose] public section

set_option maxRecDepth 16384

noncomputable section

namespace Cert.Mix

open Cert.KernelIdeal Cert.KernelIdeal.Gen Cert.Rows Idealize.ShloMosaic Idealize.SL.Sem Idealize.ShloMosaic.Tactic
open Idealize.ShloMosaic.TcCoe

set_option maxHeartbeats 4000000 in
/-- The point that clears the counts stores the two halves. -/
theorem stores_A (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x128 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x128 .f32) (harg21 : arg21.IsWhole) (arg22 : Memref sig .tc .vmem S512x128 .i32) (harg22 : arg22.IsWhole) (arg23 : Memref sig .tc .vmem S8x128 .f32) (harg23 : arg23.IsWhole) (arg24 : Memref sig .tc .vmem S8x128 .f32) (harg24 : arg24.IsWhole) (hc0 : cond0_0 i)
    (x0 : Vec Ideal S512x1024 .bf16) (x1 : Vec Ideal S512x2048 .bf16) (x2 : Vec Ideal S512x1024 .bf16) (x3 : Vec Ideal S512x1024 .bf16) (x4 : Vec Ideal S512x1024 .f32) (x5 : Vec Ideal S1024x1024 .bf16) (x6 : Vec Ideal S2048x1024 .bf16) (x7 : Vec Ideal S1024x1024 .bf16) (x8 : Vec Ideal S1x1024 .f32) (x9 : Vec Ideal S1x1024 .f32) (x10 : Vec Ideal S256x1024 .bf16) (x11 : Vec Ideal S256x1024 .bf16) (x12 : Vec Ideal S1024x1024 .bf16) (x13 : Vec Ideal S1024x1024 .bf16) (x14 : Vec Ideal S1x1024 .f32) (x15 : Vec Ideal S1x1024 .f32) (x16 : Vec Ideal S1024x128 .bf16) (x17 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17).1
      = stores x0 x1 x2 x3 x4 x5 x6 x7 x8 x9 x10 x11 x12 x13 x14 x15 := by
  unfold kernelRun0_A
  dsimp only
  sl_unfold_words
  simp only [View.readAt_eq_ld, Memref.IsWhole.read_unread]

/-- So its block holds the rows. -/
theorem block_A (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x128 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x128 .f32) (harg21 : arg21.IsWhole) (arg22 : Memref sig .tc .vmem S512x128 .i32) (harg22 : arg22.IsWhole) (arg23 : Memref sig .tc .vmem S8x128 .f32) (harg23 : arg23.IsWhole) (arg24 : Memref sig .tc .vmem S8x128 .f32) (harg24 : arg24.IsWhole) (hc0 : cond0_0 i)
    (x0 : Vec Ideal S512x1024 .bf16) (x1 : Vec Ideal S512x2048 .bf16) (x2 : Vec Ideal S512x1024 .bf16) (x3 : Vec Ideal S512x1024 .bf16) (x4 : Vec Ideal S512x1024 .f32) (x5 : Vec Ideal S1024x1024 .bf16) (x6 : Vec Ideal S2048x1024 .bf16) (x7 : Vec Ideal S1024x1024 .bf16) (x8 : Vec Ideal S1x1024 .f32) (x9 : Vec Ideal S1x1024 .f32) (x10 : Vec Ideal S256x1024 .bf16) (x11 : Vec Ideal S256x1024 .bf16) (x12 : Vec Ideal S1024x1024 .bf16) (x13 : Vec Ideal S1024x1024 .bf16) (x14 : Vec Ideal S1x1024 .f32) (x15 : Vec Ideal S1x1024 .f32) (x16 : Vec Ideal S1024x128 .bf16) (x17 : Vec Ideal S1x128 .f32) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
      = blockOut x0 x1 x2 x3 x4 x5 x6 x7 x8 x9 x10 x11 x12 x13 x14 x15 := by
  have hc := cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  unfold out0_A_18
  rw [View.read_writes_eq_canon _ _ _ hc]
  rw [stores_A] at hc ⊢
  funext y
  exact View.canon_apply_of_pieces _ _ (stores_agree x0 x1 x2 x3 x4 x5 x6 x7 x8 x9 x10 x11 x12 x13 x14 x15) y (hc y)

set_option maxHeartbeats 4000000 in
/-- Every other point stores the same two halves. -/
theorem stores_B (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x128 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x128 .f32) (harg21 : arg21.IsWhole) (arg22 : Memref sig .tc .vmem S512x128 .i32) (harg22 : arg22.IsWhole) (arg23 : Memref sig .tc .vmem S8x128 .f32) (harg23 : arg23.IsWhole) (arg24 : Memref sig .tc .vmem S8x128 .f32) (harg24 : arg24.IsWhole) (hc0 : ¬cond0_0 i)
    (x0 : Vec Ideal S512x1024 .bf16) (x1 : Vec Ideal S512x2048 .bf16) (x2 : Vec Ideal S512x1024 .bf16) (x3 : Vec Ideal S512x1024 .bf16) (x4 : Vec Ideal S512x1024 .f32) (x5 : Vec Ideal S1024x1024 .bf16) (x6 : Vec Ideal S2048x1024 .bf16) (x7 : Vec Ideal S1024x1024 .bf16) (x8 : Vec Ideal S1x1024 .f32) (x9 : Vec Ideal S1x1024 .f32) (x10 : Vec Ideal S256x1024 .bf16) (x11 : Vec Ideal S256x1024 .bf16) (x12 : Vec Ideal S1024x1024 .bf16) (x13 : Vec Ideal S1024x1024 .bf16) (x14 : Vec Ideal S1x1024 .f32) (x15 : Vec Ideal S1x1024 .f32) (x16 : Vec Ideal S1024x128 .bf16) (x17 : Vec Ideal S1x128 .f32) (xs0 : Vec Ideal S8x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs0).1
      = stores x0 x1 x2 x3 x4 x5 x6 x7 x8 x9 x10 x11 x12 x13 x14 x15 := by
  unfold kernelRun0_B
  dsimp only
  sl_unfold_words
  simp only [View.readAt_eq_ld, Memref.IsWhole.read_unread]

/-- So its block holds the rows. -/
theorem block_B (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x128 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x128 .f32) (harg21 : arg21.IsWhole) (arg22 : Memref sig .tc .vmem S512x128 .i32) (harg22 : arg22.IsWhole) (arg23 : Memref sig .tc .vmem S8x128 .f32) (harg23 : arg23.IsWhole) (arg24 : Memref sig .tc .vmem S8x128 .f32) (harg24 : arg24.IsWhole) (hc0 : ¬cond0_0 i)
    (x0 : Vec Ideal S512x1024 .bf16) (x1 : Vec Ideal S512x2048 .bf16) (x2 : Vec Ideal S512x1024 .bf16) (x3 : Vec Ideal S512x1024 .bf16) (x4 : Vec Ideal S512x1024 .f32) (x5 : Vec Ideal S1024x1024 .bf16) (x6 : Vec Ideal S2048x1024 .bf16) (x7 : Vec Ideal S1024x1024 .bf16) (x8 : Vec Ideal S1x1024 .f32) (x9 : Vec Ideal S1x1024 .f32) (x10 : Vec Ideal S256x1024 .bf16) (x11 : Vec Ideal S256x1024 .bf16) (x12 : Vec Ideal S1024x1024 .bf16) (x13 : Vec Ideal S1024x1024 .bf16) (x14 : Vec Ideal S1x1024 .f32) (x15 : Vec Ideal S1x1024 .f32) (x16 : Vec Ideal S1024x128 .bf16) (x17 : Vec Ideal S1x128 .f32) (xs0 : Vec Ideal S8x128 .f32) :
    out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs0
      = blockOut x0 x1 x2 x3 x4 x5 x6 x7 x8 x9 x10 x11 x12 x13 x14 x15 := by
  have hc := cover0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs0
  unfold out0_B_18
  rw [View.read_writes_eq_canon _ _ _ hc]
  rw [stores_B] at hc ⊢
  funext y
  exact View.canon_apply_of_pieces _ _ (stores_agree x0 x1 x2 x3 x4 x5 x6 x7 x8 x9 x10 x11 x12 x13 x14 x15) y (hc y)

end Cert.Mix
-- ==== Proof.MixArgs.lean ====
/- What the kernel's input blocks hold at a point, read off the arguments: the rows of the streams the point works on, its
   batch's memory rows, and the weights whole. -/
module

public import proofs.«01_k».proof.Proof.Gen.KernelIdeal.Value
public import proofs.«01_k».proof.Proof.MixStores
public import Idealize.ShloMosaic.Lib.Pipeline.ValueKit

@[expose] public section

set_option maxRecDepth 16384

noncomputable section

namespace Cert.Mix

open Idealize.ShloMosaic Idealize.ShloMosaic.TcCoe Idealize.SL.Sem
open Cert.KernelIdeal Cert.KernelIdeal.Gen Cert.Rows

variable (m : (ℓ : Loc nD τ sig) → Buf (Elt Ideal) ℓ) (c : Dev nD) (t : Fin cfg0.N)

theorem point_lt : t.val < 64 := t.isLt.trans_eq (by decide)

/-- The row of the streams that row `r` of a point's block is. -/
def rowAt (r : Fin 512) : Fin 32768 := ⟨t.val * 512 + r.val, by have := point_lt t; omega⟩

/-- The row of the memory that row `k` of a point's block is: four points share a batch. -/
def memAt (k : Fin 256) : Fin 4096 := ⟨t.val / 4 * 256 + k.val, by have := point_lt t; omega⟩

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 8] := by decide +kernel
theorem index_3 : ∀ t : Fin grid0.N, win0_3.index t = ![t.val, 9] := by decide +kernel
theorem index_4 : ∀ t : Fin grid0.N, win0_4.index t = ![t.val, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![t.val / 4, 0] := by decide +kernel
theorem index_11 : ∀ t : Fin grid0.N, win0_11.index t = ![t.val / 4, 0] := by decide +kernel
theorem index_12 : ∀ t : Fin grid0.N, win0_12.index t = ![0, 0] := by decide +kernel
theorem index_13 : ∀ t : Fin grid0.N, win0_13.index t = ![0, 0] := by decide +kernel
theorem index_14 : ∀ t : Fin grid0.N, win0_14.index t = ![0, 0] := by decide +kernel
theorem index_15 : ∀ t : Fin grid0.N, win0_15.index t = ![0, 0] := by decide +kernel

theorem block_0_at (r : Fin 512) (k : Fin 1024) :
    iblk m c 0 t (ix2 r k) = m ((c : Thread nD τ).loc main_arg0) (ix2 (rowAt t r) k) := by
  blk_ext! [iblk, V, index_0 t, rowAt]

theorem block_1_at (r : Fin 512) (k : Fin 2048) :
    iblk m c 1 t (ix2 r k) = m ((c : Thread nD τ).loc main_arg1) (ix2 (rowAt t r) k) := by
  blk_ext! [iblk, V, index_1 t, rowAt]

theorem block_2_at (r : Fin 512) (k : Fin 1024) :
    iblk m c 2 t (ix2 r k) = m ((c : Thread nD τ).loc main_arg2) (ix2 (rowAt t r) (⟨8 * 1024 + k.val, by omega⟩ : Fin 11264)) := by
  blk_ext! [iblk, V, index_2 t, rowAt]

theorem block_3_at (r : Fin 512) (k : Fin 1024) :
    iblk m c 3 t (ix2 r k) = m ((c : Thread nD τ).loc main_arg2) (ix2 (rowAt t r) (⟨9 * 1024 + k.val, by omega⟩ : Fin 11264)) := by
  blk_ext! [iblk, V, index_3 t, rowAt]

theorem block_4_at (r : Fin 512) (k : Fin 1024) :
    iblk m c 4 t (ix2 r k) = m ((c : Thread nD τ).loc main_arg3) (ix2 (rowAt t r) k) := by
  blk_ext! [iblk, V, index_4 t, rowAt]

theorem block_10_at (r : Fin 256) (k : Fin 1024) :
    iblk m c 10 t (ix2 r k) = m ((c : Thread nD τ).loc main_arg9) (ix2 (memAt t r) k) := by
  blk_ext! [iblk, V, index_10 t, memAt]

theorem block_11_at (r : Fin 256) (k : Fin 1024) :
    iblk m c 11 t (ix2 r k) = m ((c : Thread nD τ).loc main_arg10) (ix2 (memAt t r) k) := by
  blk_ext! [iblk, V, index_11 t, memAt]

theorem block_5_at (r : Fin 1024) (k : Fin 1024) :
    iblk m c 5 t (ix2 r k) = m ((c : Thread nD τ).loc main_arg4) (ix3 0 r k) := by
  blk_ext! [iblk, V, index_5 t]

theorem block_6_at (r : Fin 2048) (k : Fin 1024) :
    iblk m c 6 t (ix2 r k) = m ((c : Thread nD τ).loc main_arg5) (ix3 0 r k) := by
  blk_ext! [iblk, V, index_6 t]

theorem block_7_at (r : Fin 1024) (k : Fin 1024) :
    iblk m c 7 t (ix2 r k) = m ((c : Thread nD τ).loc main_arg6) (ix3 0 r k) := by
  blk_ext! [iblk, V, index_7 t]

theorem block_12_at (r : Fin 1024) (k : Fin 1024) :
    iblk m c 12 t (ix2 r k) = m ((c : Thread nD τ).loc main_arg11) (ix3 0 r k) := by
  blk_ext! [iblk, V, index_12 t]

theorem block_13_at (r : Fin 1024) (k : Fin 1024) :
    iblk m c 13 t (ix2 r k) = m ((c : Thread nD τ).loc main_arg12) (ix3 0 r k) := by
  blk_ext! [iblk, V, index_13 t]

theorem block_8_at (k : Fin 1024) :
    iblk m c 8 t (ix2 0 k) = m ((c : Thread nD τ).loc main_arg7) (ix2 0 k) := by
  blk_ext! [iblk, V, index_8 t]

theorem block_9_at (k : Fin 1024) :
    iblk m c 9 t (ix2 0 k) = m ((c : Thread nD τ).loc main_arg8) (ix2 0 k) := by
  blk_ext! [iblk, V, index_9 t]

theorem block_14_at (k : Fin 1024) :
    iblk m c 14 t (ix2 0 k) = m ((c : Thread nD τ).loc main_arg13) (ix2 0 k) := by
  blk_ext! [iblk, V, index_14 t]

theorem block_15_at (k : Fin 1024) :
    iblk m c 15 t (ix2 0 k) = m ((c : Thread nD τ).loc main_arg14) (ix2 0 k) := by
  blk_ext! [iblk, V, index_15 t]

end Cert.Mix
-- ==== Proof.MixValue.lean ====
/- The kernel's attended stream, one row at a time: the block a point leaves, read off the arguments. -/
module

public import proofs.«01_k».proof.Proof.MixArgs

@[expose] public section

set_option maxRecDepth 16384

noncomputable section

namespace Cert.Mix

open Idealize.ShloMosaic Idealize.ShloMosaic.TcCoe Idealize.SL.Sem
open Cert.KernelIdeal Cert.KernelIdeal.Gen Cert.KernelIdeal.Value Cert.Rows

variable (m : (ℓ : Loc nD τ sig) → Buf (Elt Ideal) ℓ) (c : Dev nD) (t : Fin cfg0.N)

/-- Whatever the point, its block of the stream holds the rows. -/
theorem outs_block : (outsAt0 m c t.val t.isLt).1
    = blockOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) := by
  by_cases h : t.val % 64 = 0
  · rw [outsAt0_A m c t h]
    dsimp only
    rw [block_A]
  · rw [outsAt0_B m c t h]
    dsimp only
    rw [block_B]

/-- The arguments' rows, as the row functions take them. -/
abbrev kHm (R : Fin 32768) (k : Fin 1024) : EReal := m ((c : Thread nD τ).loc main_arg0) (ix2 R k)
abbrev kOg (R : Fin 32768) (k : Fin 2048) : EReal := m ((c : Thread nD τ).loc main_arg1) (ix2 R k)
abbrev kGm (R : Fin 32768) (k : Fin 1024) : EReal := m ((c : Thread nD τ).loc main_arg2) (ix2 R (⟨8192 + k, by omega⟩ : Fin 11264))
abbrev kGg (R : Fin 32768) (k : Fin 1024) : EReal := m ((c : Thread nD τ).loc main_arg2) (ix2 R (⟨9216 + k, by omega⟩ : Fin 11264))
abbrev kH0 (R : Fin 32768) (k : Fin 1024) : EReal := m ((c : Thread nD τ).loc main_arg3) (ix2 R k)
abbrev kMl (k j : Fin 1024) : EReal := m ((c : Thread nD τ).loc main_arg4) (ix3 0 k j)
abbrev kGdn (k : Fin 2048) (j : Fin 1024) : EReal := m ((c : Thread nD τ).loc main_arg5) (ix3 0 k j)
abbrev kOut (k j : Fin 1024) : EReal := m ((c : Thread nD τ).loc main_arg6) (ix3 0 k j)
abbrev kg1 (j : Fin 1024) : EReal := m ((c : Thread nD τ).loc main_arg7) (ix2 0 j)
abbrev kb1 (j : Fin 1024) : EReal := m ((c : Thread nD τ).loc main_arg8) (ix2 0 j)
abbrev kK (b : Fin 16) (k : Fin 256) (j : Fin 1024) : EReal :=
  m ((c : Thread nD τ).loc main_arg9) (ix2 (⟨b * 256 + k, by omega⟩ : Fin 4096) j)
abbrev kV (b : Fin 16) (k : Fin 256) (j : Fin 1024) : EReal :=
  m ((c : Thread nD τ).loc main_arg10) (ix2 (⟨b * 256 + k, by omega⟩ : Fin 4096) j)
abbrev kQ (k j : Fin 1024) : EReal := m ((c : Thread nD τ).loc main_arg11) (ix3 0 k j)
abbrev kXo (k j : Fin 1024) : EReal := m ((c : Thread nD τ).loc main_arg12) (ix3 0 k j)
abbrev kg2 (j : Fin 1024) : EReal := m ((c : Thread nD τ).loc main_arg13) (ix2 0 j)
abbrev kb2 (j : Fin 1024) : EReal := m ((c : Thread nD τ).loc main_arg14) (ix2 0 j)

/-- The result's row `R` of batch `b`. -/
def rowOut (b : Fin 16) (R : Fin 32768) : Fin 1024 → EReal :=
  attended (mixed (kHm m c R) (kMl m c) (kOg m c R) (kGdn m c) (kGm m c R) (kGg m c R) (kH0 m c R) (kOut m c) (kg1 m c)
    (kb1 m c)) (kQ m c) (kK m c b) (kV m c b) (kXo m c) (kg2 m c) (kb2 m c)

/-- A point's block is the rows it covers. -/
theorem block_rows (r : Fin 512) (j : Fin 1024) :
    blockOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (ix2 r j)
      = rowOut m c ⟨t.val / 4, by have := point_lt t; omega⟩ (rowAt t r) j := by
  show attended (mixed (row (iblk m c 0 t) r) (mat (iblk m c 5 t)) (row (iblk m c 1 t) r) (mat (iblk m c 6 t))
    (row (iblk m c 2 t) r) (row (iblk m c 3 t) r) (row (iblk m c 4 t) r) (mat (iblk m c 7 t)) (row (iblk m c 8 t) 0)
    (row (iblk m c 9 t) 0)) (mat (iblk m c 12 t)) (mat (iblk m c 10 t)) (mat (iblk m c 11 t)) (mat (iblk m c 13 t))
    (row (iblk m c 14 t) 0) (row (iblk m c 15 t) 0) j = _
  unfold rowOut
  rw [show row (iblk m c 0 t) r = kHm m c (rowAt t r) from funext fun k => block_0_at m c t r k,
    show row (iblk m c 1 t) r = kOg m c (rowAt t r) from funext fun k => block_1_at m c t r k,
    show row (iblk m c 2 t) r = kGm m c (rowAt t r) from funext fun k => block_2_at m c t r k,
    show row (iblk m c 3 t) r = kGg m c (rowAt t r) from funext fun k => block_3_at m c t r k,
    show row (iblk m c 4 t) r = kH0 m c (rowAt t r) from funext fun k => block_4_at m c t r k,
    show mat (iblk m c 5 t) = kMl m c from funext fun k => funext fun j => block_5_at m c t k j,
    show mat (iblk m c 6 t) = kGdn m c from funext fun k => funext fun j => block_6_at m c t k j,
    show mat (iblk m c 7 t) = kOut m c from funext fun k => funext fun j => block_7_at m c t k j,
    show row (iblk m c 8 t) 0 = kg1 m c from funext fun k => block_8_at m c t k,
    show row (iblk m c 9 t) 0 = kb1 m c from funext fun k => block_9_at m c t k,
    show mat (iblk m c 10 t) = kK m c ⟨t.val / 4, _⟩ from funext fun k => funext fun j => block_10_at m c t k j,
    show mat (iblk m c 11 t) = kV m c ⟨t.val / 4, _⟩ from funext fun k => funext fun j => block_11_at m c t k j,
    show mat (iblk m c 12 t) = kQ m c from funext fun k => funext fun j => block_12_at m c t k j,
    show mat (iblk m c 13 t) = kXo m c from funext fun k => funext fun j => block_13_at m c t k j,
    show row (iblk m c 14 t) 0 = kg2 m c from funext fun k => block_14_at m c t k,
    show row (iblk m c 15 t) 0 = kb2 m c from funext fun k => block_15_at m c t k]

/-- The whole array: row `R` belongs to batch `R / 2048`. -/
theorem stream_at (R : Fin 32768) (j : Fin 1024) :
    (G18 m c (ix2 R j) : EReal) = rowOut m c ⟨R / 2048, by omega⟩ R j := by
  have hp : pt18Of (ix2 R j) = R.val / 512 := by
    show 1 * (R.val / 512 - 0) + 1 * (j.val / 1024 - 0) = _
    omega
  have hN : cfg0.N = 64 := N_0
  have ht : pt18Of (ix2 R j) < cfg0.N := by rw [hp, hN]; omega
  have hl : loc18Of (ix2 R j) = ix2 (⟨R % 512, by omega⟩ : Fin 512) j := by
    funext a; fin_cases a
    · rfl
    · exact Fin.ext (Nat.mod_eq_of_lt j.isLt)
  unfold G18
  rw [dif_pos ht, ← outsAt0_sweep m c _ ht, outs_block m c ⟨_, ht⟩, hl, block_rows]
  have e1 : (⟨pt18Of (ix2 R j) / 4, by rw [hp]; omega⟩ : Fin 16) = ⟨R / 2048, by omega⟩ := Fin.ext (by
    show pt18Of (ix2 R j) / 4 = R.val / 2048; rw [hp]; omega)
  have e2 : rowAt (⟨_, ht⟩ : Fin cfg0.N) (⟨R % 512, by omega⟩ : Fin 512) = R := Fin.ext (by
    show pt18Of (ix2 R j) * 512 + R.val % 512 = R.val; rw [hp]; omega)
  rw [e2]
  exact congrFun (congrFun (congrArg (rowOut m c) e1) R) j

end Cert.Mix
-- ==== Proof.MixRef.lean ====
/- The reference's result, read one row at a time: each of its named intermediate arrays, at an index, is the row function
   of `Rows` over the arguments' rows. -/
module

public import proofs.«01_k».proof.Proof.Gen.ReferenceIdeal.Run
public import proofs.«01_k».proof.Proof.Rows
public import Idealize.ShloMosaic.Lib.Pipeline.ValueKit

@[expose] public section

set_option maxRecDepth 16384

noncomputable section

namespace Cert.MixRef

open Idealize.ShloMosaic Idealize.ShloMosaic.TcCoe Idealize.SL.Sem Idealize.ShloMosaic.StableHlo
open Cert.ReferenceIdeal Cert.ReferenceIdeal.Gen Cert.ReferenceIdeal.Value Cert.Rows

/-- The stream row of position `s` of batch `b`, and the memory row `k` of batch `b`. -/
def strRow (b : Fin 16) (s : Fin 2048) : Fin 32768 := ⟨b * 2048 + s, by omega⟩
def memRow (b : Fin 16) (k : Fin 256) : Fin 4096 := ⟨b * 256 + k, by omega⟩

variable (V0 : Valuation τ sig (Elt Ideal))

/-- The arguments' rows, as the row functions take them. -/
abbrev rHm (R : Fin 32768) (k : Fin 1024) : EReal := V0 (Proc.devRef .tc main_arg0) (ix2 R k)
abbrev rOg (R : Fin 32768) (k : Fin 2048) : EReal := V0 (Proc.devRef .tc main_arg1) (ix2 R k)
abbrev rGm (R : Fin 32768) (k : Fin 1024) : EReal := V0 (Proc.devRef .tc main_arg2) (ix2 R (⟨8192 + k, by omega⟩ : Fin 11264))
abbrev rGg (R : Fin 32768) (k : Fin 1024) : EReal := V0 (Proc.devRef .tc main_arg2) (ix2 R (⟨9216 + k, by omega⟩ : Fin 11264))
abbrev rH0 (R : Fin 32768) (k : Fin 1024) : EReal := V0 (Proc.devRef .tc main_arg3) (ix2 R k)
abbrev wMl (k j : Fin 1024) : EReal := V0 (Proc.devRef .tc main_arg4) (ix3 0 k j)
abbrev wGdn (k : Fin 2048) (j : Fin 1024) : EReal := V0 (Proc.devRef .tc main_arg5) (ix3 0 k j)
abbrev wOut (k j : Fin 1024) : EReal := V0 (Proc.devRef .tc main_arg6) (ix3 0 k j)
abbrev g1 (j : Fin 1024) : EReal := V0 (Proc.devRef .tc main_arg7) (ix2 0 j)
abbrev b1 (j : Fin 1024) : EReal := V0 (Proc.devRef .tc main_arg8) (ix2 0 j)
abbrev memK (b : Fin 16) (k : Fin 256) (j : Fin 1024) : EReal := V0 (Proc.devRef .tc main_arg9) (ix2 (memRow b k) j)
abbrev memV (b : Fin 16) (k : Fin 256) (j : Fin 1024) : EReal := V0 (Proc.devRef .tc main_arg10) (ix2 (memRow b k) j)
abbrev wQ (k j : Fin 1024) : EReal := V0 (Proc.devRef .tc main_arg11) (ix3 0 k j)
abbrev wXo (k j : Fin 1024) : EReal := V0 (Proc.devRef .tc main_arg12) (ix3 0 k j)
abbrev g2 (j : Fin 1024) : EReal := V0 (Proc.devRef .tc main_arg13) (ix2 0 j)
abbrev b2 (j : Fin 1024) : EReal := V0 (Proc.devRef .tc main_arg14) (ix2 0 j)

/-- The row before the first norm, after it, its query row, and the row before the second norm. -/
abbrev pre1 (R : Fin 32768) : Fin 1024 → EReal :=
  resid (rH0 V0 R) (rowMul (merged (rHm V0 R) (wMl V0) (rOg V0 R) (wGdn V0) (rGm V0 R) (rGg V0 R)) (wOut V0))
abbrev post1 (R : Fin 32768) : Fin 1024 → EReal := norm (pre1 V0 R) (g1 V0) (b1 V0)
abbrev query (R : Fin 32768) : Fin 1024 → EReal := rowMul (post1 V0 R) (wQ V0)
abbrev pre2 (b : Fin 16) (R : Fin 32768) : Fin 1024 → EReal :=
  resid (post1 V0 R) (rowMul (attend (query V0 R) (memK V0 b) (memV V0 b)) (wXo V0))

theorem v34_at (b : Fin 16) (s : Fin 2048) (j : Fin 1024) :
    (res_main_v34 V0 (ix3 b s j) : EReal) = pre1 V0 (strRow b s) j := by
  pointwise [res_main_v34]
  simp only [← zero_sub (G := EReal)]
  rfl

theorem v40_at (b : Fin 16) (s : Fin 2048) : (res_main_v40 V0 (ix3 b s 0) : EReal) = mean (pre1 V0 (strRow b s)) := by
  pointwise [res_main_v40]
  simp only [v34_at]
  rfl

theorem v42_at (b : Fin 16) (s : Fin 2048) (j : Fin 1024) :
    (res_main_v42 V0 (ix3 b s j) : EReal) = pre1 V0 (strRow b s) j - mean (pre1 V0 (strRow b s)) := by
  pointwise [res_main_v42]
  simp only [v34_at, v40_at]

theorem v60_at (b : Fin 16) (s : Fin 2048) (j : Fin 1024) :
    (res_main_v60 V0 (ix3 b s j) : EReal) = post1 V0 (strRow b s) j := by
  pointwise [res_main_v60]
  simp only [v34_at, v40_at, v42_at]
  rfl

/-- A head's scores of a row. -/
abbrev scores (b : Fin 16) (h : Fin 4) (R : Fin 32768) : Fin 256 → EReal :=
  score (fun y => query V0 R (col h y)) (fun x y => memK V0 b x (col h y))

theorem v70_at (b : Fin 16) (h : Fin 4) (s : Fin 2048) (x : Fin 256) :
    (res_main_v70 V0 (ix4 b h s x) : EReal) = scores V0 b h (strRow b s) x := by
  pointwise [res_main_v70]
  simp only [v60_at]
  rfl

/-- The host's maximum over the memory rows, from `-∞`, is the fold. -/
theorem reduce_top (v : FVec Ideal S16x4x2048x256 .f32) (b : Fin 16) (h : Fin 4) (s : Fin 2048) :
    (Host.reduce (FloatOps.maximumf (F := Ideal) (φ := .f32)) v (constant (F := Ideal) S_ .f32 0xFF800000#32)
      reducesTo_S16x4x2048x256_S16x4x2048_d3 h_S_ (ix3 b h s) : EReal) = top fun x => v (ix4 b h s x) := by
  rw [Host.reduce_eq_fold]
  exact Shape.ReducesTo.fold_fiber_r4_a3 reducesTo_S16x4x2048x256_S16x4x2048_d3 (ix3 b h s) _ _ v

/-- A score's exponential over its row's greatest score. -/
theorem exp_at (v : FVec Ideal S16x4x2048x256 .f32) (r : FVec Ideal S16x4x2048 .f32) (b : Fin 16) (h : Fin 4) (s : Fin 2048)
    (x : Fin 256) :
    (Host.exp (subf v (broadcastInDim S16x4x2048x256 ![0, 1, 2, 3] bcast_S16x4x2048x1_S16x4x2048x256_0_1_2_3
      (broadcastInDim S16x4x2048x1 ![0, 1, 2] bcast_S16x4x2048_S16x4x2048x1_0_1_2
        (maximumf (broadcastInDim S16x4x2048 ![] bcast_S_S16x4x2048 (constant S_ .f32 0xFF800000#32)) r)))) (ix4 b h s x) : EReal)
      = Ideal.exp (v (ix4 b h s x) - max cBot (r (ix3 b h s))) := by
  pointwise []
  rfl

theorem max_bot (e : EReal) : max cBot e = e := by
  have : cBot = ⊥ := by unfold cBot; simp [Ideal.ofBits, Ideal.ieee]
  rw [this]; exact max_eq_right bot_le

theorem v77_at (b : Fin 16) (h : Fin 4) (s : Fin 2048) (x : Fin 256) :
    (res_main_v77 V0 (ix4 b h s x) : EReal)
      = Ideal.exp (scores V0 b h (strRow b s) x - top (scores V0 b h (strRow b s))) := by
  have e : (fun x => (res_main_v70 V0 (ix4 b h s x) : EReal)) = scores V0 b h (strRow b s) :=
    funext fun x => v70_at V0 b h s x
  unfold res_main_v77
  rw [exp_at, reduce_top, e, max_bot, v70_at]

theorem v89_at (b : Fin 16) (s : Fin 2048) (j : Fin 1024) :
    (res_main_v89 V0 (ix3 b s j) : EReal) = pre2 V0 b (strRow b s) j := by
  pointwise [res_main_v89]
  simp only [v60_at, v77_at]
  refine congrArg₂ (· + ·) rfl (Finset.sum_congr rfl fun x _ => congrArg₂ (· * ·) ?_ rfl)
  refine (Finset.sum_congr rfl fun y _ => mul_comm _ _).trans ?_
  show _ = headOf (query V0 (strRow b s)) (memK V0 b) (memV V0 b) ⟨x / 256, _⟩ ⟨x % 256, _⟩
  unfold headOf head
  refine Finset.sum_congr rfl fun y _ => congrArg₂ (· * ·) rfl ?_
  show memV V0 b y x = memV V0 b y (col ⟨x / 256, _⟩ ⟨x % 256, _⟩)
  rw [col_split x]

theorem v95_at (b : Fin 16) (s : Fin 2048) : (res_main_v95 V0 (ix3 b s 0) : EReal) = mean (pre2 V0 b (strRow b s)) := by
  pointwise [res_main_v95]
  simp only [v89_at]
  rfl

theorem v97_at (b : Fin 16) (s : Fin 2048) (j : Fin 1024) :
    (res_main_v97 V0 (ix3 b s j) : EReal) = pre2 V0 b (strRow b s) j - mean (pre2 V0 b (strRow b s)) := by
  pointwise [res_main_v97]
  simp only [v89_at, v95_at]

end Cert.MixRef
-- ==== Proof.ProjRun.lean ====
/- One run of the input projection's body on whole buffers: at a row block's first column block it writes the normalised
   rows, their rounding kept in scratch and the narrow projection's sixteen transposed chunks; at every column block it
   writes the product of the kept rows with that column block of the wide matrix. -/
module

public import proofs.«01_k».proof.Proof.Gen.KProjIdeal.Skeleton
public import proofs.«01_k».proof.Proof.Gen.KProjIdeal.Frame
public import Idealize.ShloMosaic.Lib.Pipeline.ValueKit
public import Idealize.ShloMosaic.Lib.VecWindow

@[expose] public section

set_option maxRecDepth 16384

noncomputable section

namespace Cert.Proj

open Cert.KProjIdeal Cert.KProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at a row block's first column block. -/
abbrev firstCol (i : grid0.Coords) : Prop := k0_cond1 i = 1#1

/-- The narrow projection's chunks as the body stores them, last first: chunk `k` is rows `64k … 64k+63`, transposed. -/
abbrev chunkPieces (v42 : FVec F S1024x128 .f32) (v44 : FVec F S128x64 .f32) : List (View.Piece (Elt F) S16x128x64 .f32) :=
  [⟨Rect.unit (s := S16x128x64) ![15, 0, 0] S1x128x64.size inb_S16x128x64_S1x128x64_15_0_0, k0_pay2 v42⟩,
   ⟨Rect.unit (s := S16x128x64) ![14, 0, 0] S1x128x64.size inb_S16x128x64_S1x128x64_14_0_0, k0_pay1 v42⟩,
   ⟨Rect.unit (s := S16x128x64) ![13, 0, 0] S1x128x64.size inb_S16x128x64_S1x128x64_13_0_0, k0_pay23 v42⟩,
   ⟨Rect.unit (s := S16x128x64) ![12, 0, 0] S1x128x64.size inb_S16x128x64_S1x128x64_12_0_0, k0_pay22 v42⟩,
   ⟨Rect.unit (s := S16x128x64) ![11, 0, 0] S1x128x64.size inb_S16x128x64_S1x128x64_11_0_0, k0_pay21 v42⟩,
   ⟨Rect.unit (s := S16x128x64) ![10, 0, 0] S1x128x64.size inb_S16x128x64_S1x128x64_10_0_0, k0_pay20 v42⟩,
   ⟨Rect.unit (s := S16x128x64) ![9, 0, 0] S1x128x64.size inb_S16x128x64_S1x128x64_9_0_0, k0_pay19 v42⟩,
   ⟨Rect.unit (s := S16x128x64) ![8, 0, 0] S1x128x64.size inb_S16x128x64_S1x128x64_8_0_0, k0_pay18 v42⟩,
   ⟨Rect.unit (s := S16x128x64) ![7, 0, 0] S1x128x64.size inb_S16x128x64_S1x128x64_7_0_0, k0_pay17 (k0_pay16 v42)⟩,
   ⟨Rect.unit (s := S16x128x64) ![6, 0, 0] S1x128x64.size inb_S16x128x64_S1x128x64_6_0_0, k0_pay15 v42⟩,
   ⟨Rect.unit (s := S16x128x64) ![5, 0, 0] S1x128x64.size inb_S16x128x64_S1x128x64_5_0_0, k0_pay14 v42⟩,
   ⟨Rect.unit (s := S16x128x64) ![4, 0, 0] S1x128x64.size inb_S16x128x64_S1x128x64_4_0_0, k0_pay13 v42⟩,
   ⟨Rect.unit (s := S16x128x64) ![3, 0, 0] S1x128x64.size inb_S16x128x64_S1x128x64_3_0_0, k0_pay12 v42⟩,
   ⟨Rect.unit (s := S16x128x64) ![2, 0, 0] S1x128x64.size inb_S16x128x64_S1x128x64_2_0_0, k0_pay11 v42⟩,
   ⟨Rect.unit (s := S16x128x64) ![1, 0, 0] S1x128x64.size inb_S16x128x64_S1x128x64_1_0_0, k0_pay10 v42⟩,
   ⟨Rect.unit (s := S16x128x64) ![0, 0, 0] S1x128x64.size inb_S16x128x64_S1x128x64_0_0_0, k0_pay9 v44⟩]

theorem chunk_cover (v42 : FVec F S1024x128 .f32) (v44 : FVec F S128x64 .f32) (y : S16x128x64.Idx) :
    ∃ p ∈ chunkPieces v42 v44, y ∈ p.1.set :=
  View.cover_of_tiled (chunkPieces v42 v44) ![1, 128, 64] (by rfl) y

/-- The chunks' block, from the row block, the norm's parameters and the narrow matrix. -/
def chunkTile (x0 : Vec F S1024x1024 .f32) (x1 x2 : Vec F S1x1024 .f32) (x4 : Vec F S1024x128 .bf16) : Vec F S16x128x64 .f32 :=
  View.canon (chunkPieces (k0_pay7 x0 x1 x2 x4) (k0_pay8 x0 x1 x2 x4))

set_option maxHeartbeats 1000000 in
/-- A row block's first column block. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x128 .bf16) (harg6 : arg6.IsWhole) (arg7 : Memref sig .tc .vmem S1024x1024 .f32) (harg7 : arg7.IsWhole) (arg8 : Memref sig .tc .vmem S1024x2816 .bf16) (harg8 : arg8.IsWhole) (arg9 : Memref sig .tc .vmem S16x128x64 .f32) (harg9 : arg9.IsWhole) (arg10 : Memref sig .tc .vmem S1024x1024 .bf16) (harg10 : arg10.IsWhole)
    (hc0 : firstCol i)
    (x0 : Vec F S1024x1024 .f32) (x1 x2 : Vec F S1x1024 .f32) (x3 : Vec F S1024x2816 .bf16) (x4 : Vec F S1024x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x0 x1 x2) ∗ owns (c : Thread nD τ) arg8 fullShare (k0_pay3 (k0_pay6 x0 x1 x2) x3) ∗ owns (c : Thread nD τ) arg9 fullShare (chunkTile x0 x1 x2 x4) ∗ owns (c : Thread nD τ) arg10 fullShare (k0_pay6 x0 x1 x2)) -∗ K ⟨⟩))
      ⊢ wp frame (wpE (defs₀ (F := F)) Variants.none c none) E (cc0_ln_in_proj i arg2 harg2 arg3 harg3 arg4 harg4 arg5 harg5 arg6 harg6 arg7 harg7 arg8 harg8 arg9 harg9 arg10 harg10) K := by
  simp only [cc0_ln_in_proj_eq_skeleton]; unfold cc0_ln_in_proj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    rw [View.read_writes_full]
    simp only [View.readAt_eq_ld, Memref.IsWhole.read_unread]
    rw [View.ld_unit_lit, View.ld_unit_lit, View.ld_unit_lit] <;> decide
  isplitl [H6]
  · iexists _; isplitr; swap; · iexact H6
    ipureintro
    sl_unfold_words
    rw [View.read_writes_full]
    simp only [View.readAt_eq_ld, Memref.IsWhole.read_unread, View.readCov_cons_toLoadRect]
    rw [View.ld_unit_lit, View.ld_unit_lit, View.ld_unit_lit, View.ld_unit_lit] <;> decide
  isplitl [H7]
  · iexists _; isplitr; swap; · iexact H7
    ipureintro
    sl_unfold_words
    simp only [View.readAt_eq_ld, Memref.IsWhole.read_unread]
    rw [View.ld_unit_lit (S := S1024x1024), View.ld_unit_lit (S := S1x1024), View.ld_unit_lit (S := S1x1024),
      View.ld_unit_lit (S := S1024x128)]
    · exact View.read_writes_eq_canon _ _ _ (chunk_cover _ _)
    all_goals decide
  iexists _; isplitr; swap; · iexact HS0
  ipureintro
  sl_unfold_words
  rw [View.read_writes_full]
  simp only [View.readAt_eq_ld, Memref.IsWhole.read_unread]
  rw [View.ld_unit_lit, View.ld_unit_lit, View.ld_unit_lit] <;> decide

set_option maxHeartbeats 1000000 in
/-- Any other column block of the row block: the buffers of the rows and of the chunks, and the scratch, keep what they hold. -/
theorem run_rest (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x128 .bf16) (harg6 : arg6.IsWhole) (arg7 : Memref sig .tc .vmem S1024x1024 .f32) (harg7 : arg7.IsWhole) (arg8 : Memref sig .tc .vmem S1024x2816 .bf16) (harg8 : arg8.IsWhole) (arg9 : Memref sig .tc .vmem S16x128x64 .f32) (harg9 : arg9.IsWhole) (arg10 : Memref sig .tc .vmem S1024x1024 .bf16) (harg10 : arg10.IsWhole)
    (hc0 : ¬ firstCol i)
    (x0 : Vec F S1024x1024 .f32) (x1 x2 : Vec F S1x1024 .f32) (x3 : Vec F S1024x2816 .bf16) (x4 : Vec F S1024x128 .bf16)
    (y5 : Vec F S1024x1024 .f32) (y7 : Vec F S16x128x64 .f32) (ys : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ owns (c : Thread nD τ) arg9 fullShare y7 ∗ owns (c : Thread nD τ) arg10 fullShare ys ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (k0_pay3 ys x3) ∗ owns (c : Thread nD τ) arg9 fullShare y7 ∗ owns (c : Thread nD τ) arg10 fullShare ys) -∗ K ⟨⟩))
      ⊢ wp frame (wpE (defs₀ (F := F)) Variants.none c none) E (cc0_ln_in_proj i arg2 harg2 arg3 harg3 arg4 harg4 arg5 harg5 arg6 harg6 arg7 harg7 arg8 harg8 arg9 harg9 arg10 harg10) K := by
  simp only [cc0_ln_in_proj_eq_skeleton]; unfold cc0_ln_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg9.eq_unread hf7; obtain rfl := harg10.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [H6]
  · iexists _; isplitr; swap; · iexact H6
    ipureintro
    rw [View.read_writes_full]
    simp only [View.readAt_eq_ld, Memref.IsWhole.read_unread]
    rw [View.ld_unit_lit, View.ld_unit_lit] <;> decide
  isplitl [H7]
  · iexists _; isplitr; swap; · iexact H7
    ipureintro
    exact harg9.read_unread _
  iexists _; isplitr; swap; · iexact HS0
  ipureintro
  exact harg10.read_unread _

end Cert.Proj

end
-- ==== Proof.ProjBody.lean ====
/- The input projection's pipeline: what every grid point finds and leaves in each window's buffer and in the scratch, the
   body at every point, and the run of the whole program with each result array named. -/
module

public import proofs.«01_k».proof.Proof.ProjRun
public import Idealize.ShloMosaic.Lib.Pipeline.ValueKit
public import Idealize.ShloMosaic.Lib.Pipeline.TableIdle
public import Idealize.ShloMosaic.Lib.WordCmp

@[expose] public section

set_option maxRecDepth 16384

noncomputable section

namespace Cert.Proj

open Cert.KProjIdeal Cert.KProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: 32 row blocks of four column blocks each -/

theorem points (t : Fin cfg0.N) : t.val < 128 := Nat.lt_of_lt_of_eq t.isLt N_0

/-- The first point of a point's row block. -/
def base (t : Fin cfg0.N) : Fin cfg0.N := ⟨t.val / 4 * 4, Nat.lt_of_le_of_lt (Nat.div_mul_le_self _ _) t.isLt⟩

theorem base_first (t : Fin cfg0.N) (h : t.val % 4 = 0) : base t = t :=
  Fin.ext (by show t.val / 4 * 4 = t.val; omega)

theorem base_rest (t : Fin cfg0.N) (h : ¬ t.val % 4 = 0) (h' : t.val - 1 < cfg0.N) : base t = base ⟨t.val - 1, h'⟩ :=
  Fin.ext (by show t.val / 4 * 4 = (t.val - 1) / 4 * 4; omega)

/-- The branch's condition in closed form. -/
theorem first_iff (t : Fin cfg0.N) : firstCol (grid0.coords t) ↔ t.val % 4 = 0 := by
  have e0 : (grid0.coords t 0).val = t.val / 4 % 32 := Pipeline.Grid.coords_val t 0 (by decide) rfl
  have e1 : (grid0.coords t 1).val = t.val / 1 % 4 := Pipeline.Grid.coords_val t 1 (by decide) rfl
  have ht := points t
  simp only [firstCol, k0_cond1, e0, e1]
  word_cmp

/-! ## What the buffers hold -/

/-- The row block's normalised rows, -/
def hTile (c : Dev nD) (t : Fin cfg0.N) : Vec F S1024x1024 .f32 :=
  k0_pay4 (iblk m c 0 (base t)) (iblk m c 1 (base t)) (iblk m c 2 (base t))
/-- their rounding, kept in scratch, -/
def keptTile (c : Dev nD) (t : Fin cfg0.N) : Vec F S1024x1024 .bf16 :=
  k0_pay6 (iblk m c 0 (base t)) (iblk m c 1 (base t)) (iblk m c 2 (base t))
/-- the narrow projection's chunks, -/
def sTile (c : Dev nD) (t : Fin cfg0.N) : Vec F S16x128x64 .f32 :=
  chunkTile (iblk m c 0 (base t)) (iblk m c 1 (base t)) (iblk m c 2 (base t)) (iblk m c 4 (base t))
/-- and a column block of the wide projection. -/
def pTile (c : Dev nD) (t : Fin cfg0.N) : Vec F S1024x2816 .bf16 :=
  k0_pay3 (keptTile m c t) (iblk m c 3 t)

/-- Within a row block nothing moves but the wide projection's column block. -/
theorem hTile_rest (c : Dev nD) (t : Fin cfg0.N) (h : ¬ t.val % 4 = 0) (h' : t.val - 1 < cfg0.N) :
    hTile m c t = hTile m c ⟨t.val - 1, h'⟩ := by unfold hTile; rw [base_rest t h h']
theorem keptTile_rest (c : Dev nD) (t : Fin cfg0.N) (h : ¬ t.val % 4 = 0) (h' : t.val - 1 < cfg0.N) :
    keptTile m c t = keptTile m c ⟨t.val - 1, h'⟩ := by unfold keptTile; rw [base_rest t h h']
theorem sTile_rest (c : Dev nD) (t : Fin cfg0.N) (h : ¬ t.val % 4 = 0) (h' : t.val - 1 < cfg0.N) :
    sTile m c t = sTile m c ⟨t.val - 1, h'⟩ := by unfold sTile; rw [base_rest t h h']

/-- The scratch as a whole memref. -/
abbrev kept : Memref sig .tc .vmem S1024x1024 .bf16 := Memref.whole cc0_scratch0

/-- The region's own buffers at the start: the scratch at anything, and the generator register. -/
theorem start_eq (c : Dev nD) :
    (Pipeline.ΦA spec0 c : sProp 𝕄)
      = iprop((∃ d, owns (c : Thread nD τ) kept fullShare d) ∗ (∃ r, prngReg c r)) := by
  unfold Pipeline.ΦA; rw [scopedRest0_eq]; simp only [kept, owns_whole]; rfl

/-- Between two points: the scratch holds the rows the point before worked with. -/
def between (c : Dev nD) : (n : ℕ) → n ≤ cfg0.N → sProp 𝕄
  | 0, _ => Pipeline.ΦA spec0 c
  | n + 1, hn => iprop(owns (c : Thread nD τ) kept fullShare (keptTile m c ⟨n, hn⟩) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(owns (c : Thread nD τ) kept fullShare (keptTile m c ⟨n - 1, by omega⟩) ∗ (∃ r, prngReg c r)) := by
  cases n with
  | zero => exact absurd rfl hz
  | succ n => rfl

/-- At any time the invariant gives up what the region started with. -/
theorem between_start (c : Dev nD) (n : ℕ) (h : n ≤ cfg0.N) : between m c n h ⊢ Pipeline.ΦA spec0 c := by
  by_cases hz : n = 0
  · rw [between_zero m c n h hz]
  · rw [between_pos m c n h hz, start_eq]
    iintro ⟨HS0, Hg⟩
    isplitl [HS0]
    · iexists _; iexact HS0
    iexact Hg

/-- The pipeline's data: the arrays as the region finds them; after a point every input buffer at its block, every output
    buffer at the tiles above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hTile m c t
    | ⟨6, _⟩ => pTile m c t
    | ⟨7, _⟩ => sTile m c t
    | ⟨_ + 8, h⟩ => absurd h (Nat.not_lt.2 (Nat.le_add_left _ _))
  Φ t := between m c t.val (Nat.le_of_lt_succ t.isLt)
  q _ := fullShare
  owed _ := 0

theorem entry (c : Dev nD) (w : Fin cfg0.W) : (dats m 0 c).A w = V m c (Pipeline.arrRef spec0 w) := by
  dsimp only [dats]

theorem inv_before (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hTile m c t := by dsimp only [dats]
theorem after_6 (c : Dev nD) (t : Fin cfg0.N) : (dats m 0 c).after 6 t = pTile m c t := by dsimp only [dats]
theorem after_7 (c : Dev nD) (t : Fin cfg0.N) : (dats m 0 c).after 7 t = sTile m c t := by dsimp only [dats]

theorem before_0 (c : Dev nD) (t : Fin cfg0.N) (d) : (dats m 0 c).before 0 t d = iblk m c 0 t :=
  before0_0_of m (dats m 0 c) (entry m c 0) (after_0 m c) t d
theorem before_1 (c : Dev nD) (t : Fin cfg0.N) (d) : (dats m 0 c).before 1 t d = iblk m c 1 t :=
  before0_1_of m (dats m 0 c) (entry m c 1) (after_1 m c) t d
theorem before_2 (c : Dev nD) (t : Fin cfg0.N) (d) : (dats m 0 c).before 2 t d = iblk m c 2 t :=
  before0_2_of m (dats m 0 c) (entry m c 2) (after_2 m c) t d
theorem before_3 (c : Dev nD) (t : Fin cfg0.N) (d) : (dats m 0 c).before 3 t d = iblk m c 3 t :=
  before0_3_of m (dats m 0 c) (entry m c 3) (after_3 m c) t d
theorem before_4 (c : Dev nD) (t : Fin cfg0.N) (d) : (dats m 0 c).before 4 t d = iblk m c 4 t :=
  before0_4_of m (dats m 0 c) (entry m c 4) (after_4 m c) t d

/-! ## The two windows the body leaves alone but at a row block's first point -/

theorem idle_iff (w : Fin cfg0.W) (hw : w = 5 ∨ w = 7) (t : Fin cfg0.N) :
    cfg0.idle w (grid0.coords t) = true ↔ ¬ t.val % 4 = 0 := by
  rw [← first_iff t]
  rcases hw with rfl | rfl <;>
  · show (!(k0_cond1 (grid0.coords t) == 1#1)) = true ↔ _
    simp [firstCol]

theorem flush_iff (w : Fin cfg0.W) (hw : w = 5 ∨ w = 7) (t : Fin cfg0.N) :
    (cfg0.win w).flush t = true ↔ t.val % 4 = 3 := by
  rcases hw with rfl | rfl
  · exact flush0_5 t
  · exact flush0_7 t

/-- Past a row block's first point the buffer is not fresh. -/
theorem fresh_rest (w : Fin cfg0.W) (hw : w = 5 ∨ w = 7) : ∀ n : ℕ, n < cfg0.N → ¬ n % 4 = 0 → cfg0.fresh w n = false
  | 0, _, h => absurd rfl h
  | n + 1, hn, h => by
    have hn' : n < cfg0.N := Nat.lt_of_succ_lt hn
    rw [Pipeline.Cfg.fresh_succ cfg0 w n hn', Bool.or_eq_false_iff, Bool.and_eq_false_iff]
    refine ⟨?_, ?_⟩
    · rw [← Bool.not_eq_true, flush_iff w hw]
      show ¬ n % 4 = 3
      omega
    · by_cases h0 : n % 4 = 0
      · left
        rw [← Bool.not_eq_true, idle_iff w hw ⟨n, hn'⟩]
        exact fun h' => h' h0
      · right
        exact fresh_rest w hw n hn' h0

/-- So past it the buffer holds what the first point left. -/
theorem before_5 (c : Dev nD) (t : Fin cfg0.N) (h : ¬ t.val % 4 = 0) (d) : (dats m 0 c).before 5 t d = hTile m c t := by
  rw [(dats m 0 c).before_out_traj 5 rfl (fun _ _ => rfl) (fun t' hz hi _ => by
      rw [after_5, after_5]
      exact hTile_rest m c t' ((idle_iff 5 (.inl rfl) t').mp hi) _) _ t rfl d,
    fresh_rest 5 (.inl rfl) t.val t.isLt h, if_neg Bool.false_ne_true, after_5]
  exact (hTile_rest m c t h _).symm
theorem before_7 (c : Dev nD) (t : Fin cfg0.N) (h : ¬ t.val % 4 = 0) (d) : (dats m 0 c).before 7 t d = sTile m c t := by
  rw [(dats m 0 c).before_out_traj 7 rfl (fun _ _ => rfl) (fun t' hz hi _ => by
      rw [after_7, after_7]
      exact sTile_rest m c t' ((idle_iff 7 (.inr rfl) t').mp hi) _) _ t rfl d,
    fresh_rest 7 (.inr rfl) t.val t.isLt h, if_neg Bool.false_ne_true, after_7]
  exact (sTile_rest m c t h _).symm

/-! ## The body at every point -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x2816 .bf16 := win0_3.stage (cfg0.slots t 3)
abbrev ms4 (t : Fin cfg0.N) : Memref sig .tc .vmem S1024x128 .bf16 := win0_4.stage (cfg0.slots t 4)
abbrev ms5 (t : Fin cfg0.N) : Memref sig .tc .vmem S1024x1024 .f32 := win0_5.stage (cfg0.slots t 5)
abbrev ms6 (t : Fin cfg0.N) : Memref sig .tc .vmem S1024x2816 .bf16 := win0_6.stage (cfg0.slots t 6)
abbrev ms7 (t : Fin cfg0.N) : Memref sig .tc .vmem S16x128x64 .f32 := win0_7.stage (cfg0.slots t 7)

/-- What the body finds at a point, -/
def finds (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it leaves. -/
def leaves (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_live (c : Dev nD) (w : Fin cfg0.W) (t : Fin cfg0.N) (hi : cfg0.idle w (grid0.coords t) = false) :
    (dats m 0 c).leavesExact w t
      = owns (c : Thread nD τ) ((cfg0.win w).stage (cfg0.slots t w)) fullShare ((dats m 0 c).after w t) := by
  unfold Dat.leavesExact; rw [hi]

/-- A buffer left alone that holds the point's tile satisfies what is asked of it, written back or not. -/
theorem leaves_held (c : Dev nD) (w : Fin cfg0.W) (t : Fin cfg0.N) (hi : cfg0.idle w (grid0.coords t) = true)
    (hb : ∀ d, (dats m 0 c).before w t d = (dats m 0 c).after w t) :
    owns (c : Thread nD τ) ((cfg0.win w).stage (cfg0.slots t w)) fullShare ((dats m 0 c).after w t)
      ⊢ (dats m 0 c).leavesExact w t := by
  unfold Dat.leavesExact
  rw [hi]
  cases (cfg0.win w).flush t
  · dsimp only
    iintro H
    iexists ((dats m 0 c).after w t)
    rw [hb]
    iexact H
  · exact .rfl

set_option maxHeartbeats 1600000 in
theorem body_sound (c : Dev nD) (t : Fin cfg0.N) :
    finds m c t ⊢ wp frame (wpE (defs₀ (F := F)) Variants.none c none) Set.univ (bodyAt0 t) (fun _ => leaves m c t) := by
  unfold finds leaves bodyAt0
  simp only [before_0, before_1, before_2, before_3, before_4]
  rw [show (dats m 0 c).owesAt () t.succ = (dats m 0 c).owesAt () t.castSucc from rfl,
    show (dats m 0 c).Φ t.succ
      = iprop(owns (c : Thread nD τ) kept fullShare (keptTile m c t) ∗ (∃ r, prngReg c r)) from rfl,
    inv_before,
    leaves_live m c 0 t rfl, leaves_live m c 1 t rfl, leaves_live m c 2 t rfl, leaves_live m c 3 t rfl,
    leaves_live m c 4 t rfl, leaves_live m c 6 t rfl, after_0, after_1, after_2, after_3, after_4, after_6]
  by_cases h0 : t.val % 4 = 0
  · rw [leaves_live m c 5 t (by rw [← Bool.not_eq_true, idle_iff 5 (.inl rfl)]; exact fun h => h h0),
      leaves_live m c 7 t (by rw [← Bool.not_eq_true, idle_iff 7 (.inr rfl)]; exact fun h => h h0), after_5, after_7]
    unfold pTile hTile sTile keptTile
    rw [base_first t h0]
    have hs := between_start m c t.val (Nat.le_of_lt t.isLt)
    rw [start_eq] at hs
    iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS := hs $$ Hs
    icases HS with ⟨HS0, Hg⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    simp only [before_5 m c t h0, before_7 m c t h0]
    rw [between_pos m c _ _ hz, ← keptTile_rest m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_rest c (grid0.coords t) _ _ _ _ _ _ _ _ _ _ _ _ _ _ _ _ _ _ (fun h => h0 ((first_iff t).mp h)) (iblk m c 0 t) (iblk m c 1 t) (iblk m c 2 t) (iblk m c 3 t) (iblk m c 4 t) (hTile m c t) (sTile m c t) (keptTile m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_held m c 5 t ((idle_iff 5 (.inl rfl) t).mpr h0) (fun d => by rw [before_5 m c t h0, after_5]))
      rw [after_5]; iexact H5
    isplitl [H6]; · iexact H6
    iapply (leaves_held m c 7 t ((idle_iff 7 (.inr rfl) t).mpr h0) (fun d => by rw [before_7 m c t h0, after_7]))
    rw [after_7]; iexact H7

theorem body_row (t : Fin cfg0.N) :
    defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The whole program -/

set_option backward.isDefEq.respectTransparency.types false in
/-- Every run ends with each array of the pipeline at what the data say, everything else as the region found it, and all
    counters at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := entry m)
    (hin := fun c => by
      rw [show (dats m 0 c).Φ 0 = between m c 0 (Nat.zero_le _) from rfl, between_zero m c 0 _ rfl])
    (hout := fun c => by
      rw [show (dats m 0 c).Φ (Fin.last cfg0.N) = between m c cfg0.N (le_refl _) from rfl]
      exact between_start m c _ _)

/-- The arguments end as they began, and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (entry m) ((θ_run defs _ _).mono (fun _ h => h.1) (run_all m ρ)))
    ((θ_run defs _ _).mono (fun _ h => h.2) (run_all m ρ))

end Cert.Proj

end
-- ==== Proof.Cols.lean ====
/- The input projection's columns: which column of the whole matrix each column of the wide and of the narrow product is,
   and what the three results hold, from the rows of the input. -/
module

public import proofs.«01_k».proof.Proof.Rows

@[expose] public section

set_option maxRecDepth 16384

noncomputable section

namespace Cert.Cols

open Idealize.ShloMosaic Cert.Rows

/-- The wide product's column `j`, as a column of the whole matrix. -/
def wideCol (j : Fin 11264) : Fin 11304 :=
  ⟨if j.val < 6144 then 3080 + j else if j.val < 8192 then j - 5120 else if j.val < 10240 then j + 1064 else j - 10240,
    by split_ifs <;> omega⟩

/-- The narrow product's column `j`; only the first 40 are columns of the whole matrix. -/
def narrowCol (j : Fin 128) : Fin 11304 := ⟨if j.val < 8 then 3072 + j else 9216 + j, by split_ifs <;> omega⟩

/-- A row of the wide product: the normed row times the chosen columns. -/
def wideRow (h : Fin 1024 → EReal) (w : Fin 1024 → Fin 11304 → EReal) (j : Fin 11264) : EReal := rowMul h w (wideCol j)

/-- A row of the narrow product; the columns past the last are zero. -/
def narrowRow (h : Fin 1024 → EReal) (w : Fin 1024 → Fin 11304 → EReal) (j : Fin 128) : EReal :=
  if j.val < 40 then rowMul h w (narrowCol j) else 0

/-- The row the narrow product's chunk `n` holds at place `l`. -/
def chunkRow (n : Fin 512) (l : Fin 64) : Fin 32768 := ⟨n * 64 + l, by omega⟩

/-- The wide columns laid side by side, block by block. -/
theorem pick_wide (f : Fin 11304 → EReal) (j : Fin 11264) :
    (if h : j.val < 4096 then f ⟨3080 + j, by omega⟩ else
      if h : j.val - 4096 < 2048 then f ⟨7176 + (j - 4096), by omega⟩ else
      if h : j.val - 4096 - 2048 < 1024 then f ⟨1024 + (j - 4096 - 2048), by omega⟩ else
      if h : j.val - 4096 - 2048 - 1024 < 1024 then f ⟨2048 + (j - 4096 - 2048 - 1024), by omega⟩ else
      if h : j.val - 4096 - 2048 - 1024 - 1024 < 1024 then f ⟨9256 + (j - 4096 - 2048 - 1024 - 1024), by omega⟩ else
      if h : j.val - 4096 - 2048 - 1024 - 1024 - 1024 < 1024 then
        f ⟨10280 + (j - 4096 - 2048 - 1024 - 1024 - 1024), by omega⟩ else
      if h : j.val - 4096 - 2048 - 1024 - 1024 - 1024 - 1024 < 512 then
        f ⟨j - 4096 - 2048 - 1024 - 1024 - 1024 - 1024, by omega⟩ else
      f ⟨512 + (j - 4096 - 2048 - 1024 - 1024 - 1024 - 1024 - 512), by omega⟩) = f (wideCol j) := by
  split_ifs <;> refine congrArg f (Fin.ext ?_) <;> dsimp only [wideCol] <;> split_ifs <;> omega

/-- The narrow ones. -/
theorem pick_narrow (f : Fin 11304 → EReal) (j : Fin 128) :
    (if h : j.val < 8 then f ⟨3072 + j, by omega⟩ else
      if h : j.val - 8 < 16 then f ⟨9224 + (j - 8), by omega⟩ else
      if h : j.val - 8 - 16 < 16 then f ⟨9240 + (j - 8 - 16), by omega⟩ else 0)
      = if j.val < 40 then f (narrowCol j) else 0 := by
  by_cases h40 : j.val < 40
  · rw [if_pos h40]
    split_ifs <;> first
      | omega
      | (refine congrArg f (Fin.ext ?_); dsimp only [narrowCol]; split_ifs <;> omega)
  · rw [if_neg h40, dif_neg (by omega), dif_neg (by omega), dif_neg (by omega)]

/-- A row times the narrow matrix, its columns past the last zero. -/
theorem rowMul_narrow (h : Fin 1024 → EReal) (w : Fin 1024 → Fin 11304 → EReal) (j : Fin 128) :
    rowMul h (fun k (j : Fin 128) => if j.val < 40 then w k (narrowCol j) else 0) j = narrowRow h w j := by
  unfold rowMul narrowRow
  by_cases h40 : j.val < 40
  · simp only [if_pos h40]; rfl
  · simp only [if_neg h40, mul_zero, Finset.sum_const_zero]

end Cert.Cols

end
-- ==== Proof.ProjArgs.lean ====
/- The input projection's arguments: each block a grid point reads, as entries of the arguments, and the two matrices
   that are put together from the whole one. -/
module

public import proofs.«01_k».proof.Proof.ProjBody
public import proofs.«01_k».proof.Proof.Cols
public import Idealize.ShloMosaic.Lib.Pipeline.ValueKit

@[expose] public section

set_option maxRecDepth 16384

noncomputable section

namespace Cert.Proj

open Idealize.ShloMosaic Idealize.ShloMosaic.TcCoe Idealize.SL.Sem Idealize.ShloMosaic.Tactic
open Cert.KProjIdeal Cert.KProjIdeal.Gen Cert.Rows Cert.Cols

variable (m : (ℓ : Loc nD τ sig) → Buf (Elt Ideal) ℓ) (c : Dev nD) (t : Fin cfg0.N)

theorem index_0 : ∀ t : Fin grid0.N, win0_0.index t = ![t.val / 4, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, t.val % 4] := by decide +kernel
theorem index_4 : ∀ t : Fin grid0.N, win0_4.index t = ![0, 0] := by decide +kernel
theorem index_5 : ∀ t : Fin grid0.N, win0_5.index t = ![t.val / 4, 0] := by decide +kernel
theorem index_6 : ∀ t : Fin grid0.N, win0_6.index t = ![t.val / 4, t.val % 4] := by decide +kernel
theorem index_7 : ∀ t : Fin grid0.N, win0_7.index t = ![t.val / 4, 0, 0] := by decide +kernel

/-- Row `r` of a point's row block, as a row of the whole input. -/
def rowAt (r : Fin 1024) : Fin 32768 := ⟨t.val / 4 * 1024 + r.val, by have := points t; omega⟩

theorem rowAt_base (r : Fin 1024) : rowAt (base t) r = rowAt t r := Fin.ext (by
  show t.val / 4 * 4 / 4 * 1024 + r.val = t.val / 4 * 1024 + r.val; omega)

/-- Column `j` of a point's column block, as a column of the wide product. -/
def colAt (j : Fin 2816) : Fin 11264 := ⟨t.val % 4 * 2816 + j.val, by omega⟩

/-- The arguments' rows. -/
abbrev kX (R : Fin 32768) (k : Fin 1024) : EReal :=
  m ((c : Thread nD τ).loc main_arg0) (ix3 (⟨R.val / 2048, by omega⟩ : Fin 16) (⟨R.val % 2048, by omega⟩ : Fin 2048) k)
abbrev kG (k : Fin 1024) : EReal := m ((c : Thread nD τ).loc main_arg1) (ix1 k)
abbrev kB (k : Fin 1024) : EReal := m ((c : Thread nD τ).loc main_arg2) (ix1 k)
abbrev kW (k : Fin 1024) (j : Fin 11304) : EReal := m ((c : Thread nD τ).loc main_arg3) (ix3 0 k j)

theorem block_0_at (r k : Fin 1024) : iblk m c 0 t (ix2 r k) = kX m c (rowAt t r) k := by
  blk_ext! [iblk, V, index_0 t, rowAt]
theorem block_1_at (k : Fin 1024) : iblk m c 1 t (ix2 0 k) = kG m c k := by
  blk_ext! [iblk, V, index_1 t]
theorem block_2_at (k : Fin 1024) : iblk m c 2 t (ix2 0 k) = kB m c k := by
  blk_ext! [iblk, V, index_2 t]

/-- The wide matrix's column blocks laid side by side. -/
def wideFn {α : Type} (u0 : S1024x4096.Idx → α) (u1 : S1024x2048.Idx → α) (u2 u3 u4 u5 : S1024x1024.Idx → α)
    (u6 u7 : S1024x512.Idx → α) : S1024x11264.Idx → α :=
  concatenate S1024x11264 1 [⟨S1024x4096, u0⟩, ⟨S1024x2048, u1⟩, ⟨S1024x1024, u2⟩, ⟨S1024x1024, u3⟩, ⟨S1024x1024, u4⟩,
    ⟨S1024x1024, u5⟩, ⟨S1024x512, u6⟩, ⟨S1024x512, u7⟩]
    concatenates_S1024x4096_S1024x2048_S1024x1024_S1024x1024_S1024x1024_S1024x1024_S1024x512_S1024x512_S1024x11264_d1

/-- The narrow matrix's. -/
def narrowFn {α : Type} (u0 : S1024x8.Idx → α) (u1 u2 : S1024x16.Idx → α) (u3 : S1024x88.Idx → α) : S1024x128.Idx → α :=
  concatenate S1024x128 1 [⟨S1024x8, u0⟩, ⟨S1024x16, u1⟩, ⟨S1024x16, u2⟩, ⟨S1024x88, u3⟩]
    concatenates_S1024x8_S1024x16_S1024x16_S1024x88_S1024x128_d1

theorem ops_wide : hostOps0 (F := Ideal) = hostOps0.take 9
    ++ StableHlo.nary ![main_v1, main_v2, main_v3, main_v4, main_v5, main_v6, main_v7, main_v8] main_v9
      (fun u => wideFn (u 0) (u 1) (u 2) (u 3) (u 4) (u 5) (u 6) (u 7)) (by decide) (by decide) :: hostOps0.drop 10 := rfl

theorem ops_narrow : hostOps0 (F := Ideal) = hostOps0.take 16
    ++ StableHlo.nary ![main_v11, main_v12, main_v13, main_v14] main_v15
      (fun u => narrowFn (u 0) (u 1) (u 2) (u 3)) (by decide) (by decide) :: hostOps0.drop 17 := rfl

theorem wide_at (k : Fin 1024) (j : Fin 11264) : (V m c main_v10 (ix2 k j) : EReal) = kW m c k (wideCol j) := by
  dsimp only [V]
  rw [ops_wide]
  simp only [hostOps0, List.take_succ_cons, List.drop_succ_cons, List.take_zero, List.drop_zero, List.cons_append,
    List.nil_append]
  after_results_simp
  dsimp only [Matrix.cons_val]
  after_results_simp
  pointwise [wideFn]
  exact pick_wide (kW m c k) j

theorem narrow_at (k : Fin 1024) (j : Fin 128) :
    (V m c main_v16 (ix2 k j) : EReal) = if j.val < 40 then kW m c k (narrowCol j) else 0 := by
  dsimp only [V]
  rw [ops_narrow]
  simp only [hostOps0, List.take_succ_cons, List.drop_succ_cons, List.take_zero, List.drop_zero, List.cons_append,
    List.nil_append]
  after_results_simp
  dsimp only [Matrix.cons_val]
  after_results_simp
  pointwise [narrowFn]
  exact pick_narrow (kW m c k) j

theorem block_3_at (k : Fin 1024) (j : Fin 2816) : (iblk m c 3 t (ix2 k j) : EReal) = kW m c k (wideCol (colAt t j)) := by
  refine Eq.trans ?_ (wide_at m c k (colAt t j))
  blk_ext! [iblk, index_3 t, colAt]
theorem block_4_at (k : Fin 1024) (j : Fin 128) :
    (iblk m c 4 t (ix2 k j) : EReal) = if j.val < 40 then kW m c k (narrowCol j) else 0 := by
  refine Eq.trans ?_ (narrow_at m c k j)
  blk_ext! [iblk, index_4 t]

end Cert.Proj

end
-- ==== Proof.ProjValue.lean ====
/- The input projection's three results, read off the arguments: every tile a point leaves, then the arrays. -/
module

public import proofs.«01_k».proof.Proof.ProjArgs

@[expose] public section

set_option maxRecDepth 16384

noncomputable section

namespace Cert.Proj

open Idealize.ShloMosaic Idealize.ShloMosaic.TcCoe Idealize.SL.Sem Idealize.ShloMosaic.Tactic
open Cert.KProjIdeal Cert.KProjIdeal.Gen Cert.Rows Cert.Cols

section
variable (x0 : Vec Ideal S1024x1024 .f32) (x1 x2 : Vec Ideal S1x1024 .f32)

theorem normed_at (r j : Fin 1024) : (k0_pay4 x0 x1 x2 (ix2 r j) : EReal)
    = norm (fun k => x0 (ix2 r k)) (fun k => x1 (ix2 0 k)) (fun k => x2 (ix2 0 k)) j := by
  pointwise [k0_pay4]
  rfl

theorem kept_at (r j : Fin 1024) : (k0_pay6 x0 x1 x2 (ix2 r j) : EReal)
    = norm (fun k => x0 (ix2 r k)) (fun k => x1 (ix2 0 k)) (fun k => x2 (ix2 0 k)) j := by
  pointwise [k0_pay6, k0_pay5]
  exact normed_at x0 x1 x2 r j

theorem product_at (h : Vec Ideal S1024x1024 .bf16) (w : Vec Ideal S1024x2816 .bf16) (r : Fin 1024) (j : Fin 2816) :
    (k0_pay3 h w (ix2 r j) : EReal) = rowMul (fun k => h (ix2 r k)) (fun k j => w (ix2 k j)) j := by
  pointwise [k0_pay3]
  rfl

theorem narrow_product_at (w : Vec Ideal S1024x128 .bf16) (r : Fin 1024) (j : Fin 128) : (k0_pay7 x0 x1 x2 w (ix2 r j) : EReal)
    = rowMul (norm (fun k => x0 (ix2 r k)) (fun k => x1 (ix2 0 k)) (fun k => x2 (ix2 0 k))) (fun k j => w (ix2 k j)) j := by
  pointwise [k0_pay7, k0_pay5]
  simp only [normed_at]
  rfl

end

/-- The chunks of a narrow product: place `l` of chunk `n` is row `64n + l`. -/
abbrev chunked (p : Vec Ideal S1024x128 .f32) (y : S16x128x64.Idx) : EReal :=
  p (ix2 (⟨(y 0).val * 64 + (y 2).val, by have h0 : (y 0).val < 16 := (y 0).isLt; have h2 : (y 2).val < 64 := (y 2).isLt; omega⟩ : Fin 1024)
    (y 1 : Fin 128))

theorem chunk_piece (p : Vec Ideal S1024x128 .f32) (n : ℕ) (hn : n < 16)
    (inb : ∀ a, (![n, 0, 0] : Fin 3 → ℕ) a + S1x128x64.size a ≤ S16x128x64.size a)
    (v : Vec Ideal S1x128x64 .f32)
    (hv : ∀ (j : Fin 128) (l : Fin 64), (v (ix3 0 j l) : EReal) = p (ix2 (⟨n * 64 + l, by omega⟩ : Fin 1024) j))
    (x : S1x128x64.Idx) :
    v x = chunked p ((Rect.unit (s := S16x128x64) ![n, 0, 0] S1x128x64.size inb).emb x) := by
  obtain ⟨j, l, rfl⟩ : ∃ (j : Fin 128) (l : Fin 64), x = ix3 0 j l :=
    ⟨x 1, x 2, by funext a; fin_cases a <;> first | rfl | exact Fin.ext (Nat.lt_one_iff.mp (x 0).isLt)⟩
  refine (hv j l).trans (congrArg p ?_)
  funext a
  fin_cases a <;> refine Fin.ext ?_
  · show n * 64 + l.val = (n + 1 * 0) * 64 + (0 + 1 * l.val); omega
  · show j.val = 0 + 1 * j.val; omega

theorem chunkTile_at (x0 : Vec Ideal S1024x1024 .f32) (x1 x2 : Vec Ideal S1x1024 .f32) (w : Vec Ideal S1024x128 .bf16)
    (y : S16x128x64.Idx) : chunkTile x0 x1 x2 w y = chunked (k0_pay7 x0 x1 x2 w) y := by
  unfold chunkTile
  refine View.canon_apply_of_pieces (Val := Elt Ideal) (e := .f32) (chunked (k0_pay7 x0 x1 x2 w)) _ ?_ y (chunk_cover _ _ y)
  simp only [List.forall_mem_cons]
  exact ⟨chunk_piece _ 15 (by decide) _ _ fun j l => by pointwise [k0_pay2],
    chunk_piece _ 14 (by decide) _ _ fun j l => by pointwise [k0_pay1],
    chunk_piece _ 13 (by decide) _ _ fun j l => by pointwise [k0_pay23],
    chunk_piece _ 12 (by decide) _ _ fun j l => by pointwise [k0_pay22],
    chunk_piece _ 11 (by decide) _ _ fun j l => by pointwise [k0_pay21],
    chunk_piece _ 10 (by decide) _ _ fun j l => by pointwise [k0_pay20],
    chunk_piece _ 9 (by decide) _ _ fun j l => by pointwise [k0_pay19],
    chunk_piece _ 8 (by decide) _ _ fun j l => by pointwise [k0_pay18],
    chunk_piece _ 7 (by decide) _ _ fun j l => by pointwise [k0_pay17, k0_pay16],
    chunk_piece _ 6 (by decide) _ _ fun j l => by pointwise [k0_pay15],
    chunk_piece _ 5 (by decide) _ _ fun j l => by pointwise [k0_pay14],
    chunk_piece _ 4 (by decide) _ _ fun j l => by pointwise [k0_pay13],
    chunk_piece _ 3 (by decide) _ _ fun j l => by pointwise [k0_pay12],
    chunk_piece _ 2 (by decide) _ _ fun j l => by pointwise [k0_pay11],
    chunk_piece _ 1 (by decide) _ _ fun j l => by pointwise [k0_pay10],
    chunk_piece _ 0 (by decide) _ _ fun j l => by pointwise [k0_pay9, k0_pay8, k0_pay7],
    fun p hp => absurd hp List.not_mem_nil⟩

variable (m : (ℓ : Loc nD τ sig) → Buf (Elt Ideal) ℓ) (c : Dev nD) (t : Fin cfg0.N)

/-- The normed row `R`. -/
abbrev kH (R : Fin 32768) : Fin 1024 → EReal := norm (kX m c R) (kG m c) (kB m c)

theorem norm_block (r : Fin 1024) :
    norm (fun k => iblk m c 0 (base t) (ix2 r k)) (fun k => iblk m c 1 (base t) (ix2 0 k)) (fun k => iblk m c 2 (base t) (ix2 0 k))
      = kH m c (rowAt t r) := by
  rw [show (fun k => iblk m c 0 (base t) (ix2 r k)) = kX m c (rowAt t r) from funext fun k =>
      (block_0_at m c (base t) r k).trans (by rw [rowAt_base]),
    show (fun k => iblk m c 1 (base t) (ix2 0 k)) = kG m c from funext fun k => block_1_at m c (base t) k,
    show (fun k => iblk m c 2 (base t) (ix2 0 k)) = kB m c from funext fun k => block_2_at m c (base t) k]

theorem hTile_at (r j : Fin 1024) : (hTile m c t (ix2 r j) : EReal) = kH m c (rowAt t r) j :=
  (normed_at _ _ _ r j).trans (congrFun (norm_block m c t r) j)

theorem pTile_at (r : Fin 1024) (j : Fin 2816) :
    (pTile m c t (ix2 r j) : EReal) = wideRow (kH m c (rowAt t r)) (kW m c) (colAt t j) := by
  refine (product_at _ _ r j).trans ?_
  unfold rowMul wideRow rowMul
  refine Finset.sum_congr rfl fun k _ => congrArg₂ (· * ·) ?_ (block_3_at m c t k j)
  exact (kept_at _ _ _ r k).trans (congrFun (norm_block m c t r) k)

theorem sTile_at (y : S16x128x64.Idx) : (sTile m c t y : EReal)
    = narrowRow (kH m c (rowAt t ⟨(y 0).val * 64 + (y 2).val, by
        have h0 : (y 0).val < 16 := (y 0).isLt; have h2 : (y 2).val < 64 := (y 2).isLt; omega⟩)) (kW m c) (y 1 : Fin 128) := by
  refine (chunkTile_at _ _ _ _ y).trans ((narrow_product_at _ _ _ _ _ _).trans ?_)
  rw [norm_block]
  refine Eq.trans ?_ (rowMul_narrow _ _ _)
  exact congrArg (fun w => rowMul _ w _) (funext fun k => funext fun j => block_4_at m c (base t) k j)

/-! ## The arrays -/

/-- The normed input. -/
def res0 : S32768x1024.Idx → EReal := fun i => kH m c (i 0) (i 1)
/-- The wide product. -/
def res1 : S32768x11264.Idx → EReal := fun i => wideRow (kH m c (i 0)) (kW m c) (i 1)
/-- The narrow product in chunks. -/
def res2 : S512x128x64.Idx → EReal := fun i => narrowRow (kH m c (chunkRow (i 0) (i 2))) (kW m c) (i 1)

/-- A window's index, as the position of its block. -/
theorem index_val {n : ℕ} {f g : Fin n → ℕ} (h : f = g) (a : Fin n) : f a = g a := congrFun h a

theorem final_5 : (dats m 0 c).arrAt 5 cfg0.N = res0 m c := by
  refine (dats m 0 c).arrAt_eq_of_covers 5 _ (by decide +kernel) fun t hf (y : S1024x1024.Idx) => ?_
  blk_simp
  rw [after_5]
  obtain ⟨r, j, rfl⟩ : ∃ (r j : Fin 1024), y = ix2 r j := ⟨y 0, y 1, by funext a; fin_cases a <;> rfl⟩
  refine (hTile_at m c t r j).trans ?_
  refine congrArg₂ (fun R j => kH m c R j) (Fin.ext ?_) (Fin.ext ?_)
  · show t.val / 4 * 1024 + r.val = win0_5.index t (0 : Fin 2) * 1024 + 1 * r.val
    rw [index_val (index_5 t) 0]; show _ = t.val / 4 * 1024 + _; omega
  · show j.val = win0_5.index t (1 : Fin 2) * 1024 + 1 * j.val
    rw [index_val (index_5 t) 1]; show _ = 0 * 1024 + _; omega

theorem final_6 : (dats m 0 c).arrAt 6 cfg0.N = res1 m c := by
  refine (dats m 0 c).arrAt_eq_of_covers 6 _ (by decide +kernel) fun t hf (y : S1024x2816.Idx) => ?_
  blk_simp
  rw [after_6]
  obtain ⟨r, j, rfl⟩ : ∃ (r : Fin 1024) (j : Fin 2816), y = ix2 r j := ⟨y 0, y 1, by funext a; fin_cases a <;> rfl⟩
  refine (pTile_at m c t r j).trans ?_
  refine congrArg₂ (fun R j => wideRow (kH m c R) (kW m c) j) (Fin.ext ?_) (Fin.ext ?_)
  · show t.val / 4 * 1024 + r.val = win0_6.index t (0 : Fin 2) * 1024 + 1 * r.val
    rw [index_val (index_6 t) 0]; show _ = t.val / 4 * 1024 + _; omega
  · show t.val % 4 * 2816 + j.val = win0_6.index t (1 : Fin 2) * 2816 + 1 * j.val
    rw [index_val (index_6 t) 1]; show _ = t.val % 4 * 2816 + _; omega

theorem final_7 : (dats m 0 c).arrAt 7 cfg0.N = res2 m c := by
  refine (dats m 0 c).arrAt_eq_of_covers 7 _ (by decide +kernel) fun t hf (y : S16x128x64.Idx) => ?_
  blk_simp
  rw [after_7]
  refine (sTile_at m c t y).trans ?_
  refine congrArg₂ (fun R j => narrowRow (kH m c R) (kW m c) j) (Fin.ext ?_) (Fin.ext ?_)
  · show t.val / 4 * 1024 + ((y 0).val * 64 + (y 2).val)
      = (win0_7.index t (0 : Fin 3) * 16 + 1 * (y 0).val) * 64 + (win0_7.index t (2 : Fin 3) * 64 + 1 * (y 2).val)
    rw [index_val (index_7 t) 0, index_val (index_7 t) 2]
    show _ = (t.val / 4 * 16 + _) * 64 + (0 * 64 + _); omega
  · show (y 1).val = win0_7.index t (1 : Fin 3) * 128 + 1 * (y 1).val
    rw [index_val (index_7 t) 1]; show _ = 0 * 128 + _; omega

end Cert.Proj

end
-- ==== Proof.ProjRef.lean ====
/- The plain input projection, entry by entry. -/
module

public import proofs.«01_k».proof.Proof.Cols
public import proofs.«01_k».proof.Proof.Gen.RProjIdeal.Run

@[expose] public section

set_option maxRecDepth 16384

noncomputable section

namespace Cert.ProjRef

open Idealize.ShloMosaic Idealize.ShloMosaic.TcCoe Idealize.SL.Sem Idealize.ShloMosaic.Tactic
open Cert.RProjIdeal Cert.RProjIdeal.Gen Cert.RProjIdeal.Value Cert.Rows Cert.Cols

/-- The wide columns of a product, as the program lays them. -/
def wideOf {α : Type} (Z : S16x2048x11304.Idx → α) : S16x2048x11264.Idx → α :=
  concatenate S16x2048x11264 2 [⟨S16x2048x4096, extractStridedSlice S16x2048x4096 ![0, 0, 3080] Z slices_S16x2048x11304_S16x2048x4096_0_0_3080⟩,
    ⟨S16x2048x2048, extractStridedSlice S16x2048x2048 ![0, 0, 7176] Z slices_S16x2048x11304_S16x2048x2048_0_0_7176⟩,
    ⟨S16x2048x1024, extractStridedSlice S16x2048x1024 ![0, 0, 1024] Z slices_S16x2048x11304_S16x2048x1024_0_0_1024⟩,
    ⟨S16x2048x1024, extractStridedSlice S16x2048x1024 ![0, 0, 2048] Z slices_S16x2048x11304_S16x2048x1024_0_0_2048⟩,
    ⟨S16x2048x1024, extractStridedSlice S16x2048x1024 ![0, 0, 9256] Z slices_S16x2048x11304_S16x2048x1024_0_0_9256⟩,
    ⟨S16x2048x1024, extractStridedSlice S16x2048x1024 ![0, 0, 10280] Z slices_S16x2048x11304_S16x2048x1024_0_0_10280⟩,
    ⟨S16x2048x512, extractStridedSlice S16x2048x512 ![0, 0, 0] Z slices_S16x2048x11304_S16x2048x512_0_0_0⟩,
    ⟨S16x2048x512, extractStridedSlice S16x2048x512 ![0, 0, 512] Z slices_S16x2048x11304_S16x2048x512_0_0_512⟩]
    concatenates_S16x2048x4096_S16x2048x2048_S16x2048x1024_S16x2048x1024_S16x2048x1024_S16x2048x1024_S16x2048x512_S16x2048x512_S16x2048x11264_d2

theorem wideOf_at (Z : S16x2048x11304.Idx → EReal) (b : Fin 16) (s : Fin 2048) (j : Fin 11264) :
    wideOf Z (ix3 b s j) = Z (ix3 b s (wideCol j)) := by
  pointwise [wideOf]
  exact pick_wide (fun j => Z (ix3 b s j)) j

/-- The narrow ones, followed by zeros. -/
def narrowOf (Z : FVec Ideal S16x2048x11304 .f32) : FVec Ideal S16x2048x128 .f32 :=
  concatenate S16x2048x128 2 [⟨S16x2048x8, extractStridedSlice S16x2048x8 ![0, 0, 3072] Z slices_S16x2048x11304_S16x2048x8_0_0_3072⟩,
    ⟨S16x2048x16, extractStridedSlice S16x2048x16 ![0, 0, 9224] Z slices_S16x2048x11304_S16x2048x16_0_0_9224⟩,
    ⟨S16x2048x16, extractStridedSlice S16x2048x16 ![0, 0, 9240] Z slices_S16x2048x11304_S16x2048x16_0_0_9240⟩,
    ⟨S16x2048x88, broadcastInDim S16x2048x88 ![] bcast_S_S16x2048x88 (constant (F := Ideal) S_ .f32 0x00000000#32)⟩]
    concatenates_S16x2048x8_S16x2048x16_S16x2048x16_S16x2048x88_S16x2048x128_d2

theorem narrowOf_at (Z : FVec Ideal S16x2048x11304 .f32) (b : Fin 16) (s : Fin 2048) (j : Fin 128) :
    (narrowOf Z (ix3 b s j) : EReal) = if j.val < 40 then Z (ix3 b s (narrowCol j)) else 0 := by
  pointwise [narrowOf]
  exact pick_narrow (fun j => Z (ix3 b s j)) j

section
variable (x : FVec Ideal S16x2048x1024 .f32) (g b : FVec Ideal S1024 .f32) (w : FVec Ideal S1x1024x11304 .f32)

/-- The layer norm, as the program writes it. -/
def normed : FVec Ideal S16x2048x1024 .f32 :=
  let mu := broadcastInDim S16x2048x1024 ![0, 1, 2] bcast_S16x2048x1_S16x2048x1024_0_1_2 (Host.divf
    (broadcastInDim S16x2048x1 ![0, 1] bcast_S16x2048_S16x2048x1_0_1
      (Host.reduceAdd x (constant S_ .f32 0x00000000#32) reducesTo_S16x2048x1024_S16x2048_d2 h_S_))
    (broadcastInDim S16x2048x1 ![] bcast_S_S16x2048x1 (constant S_ .f32 0x44800000#32)))
  addf (mulf (mulf (subf x mu) (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf (subf x mu) (subf x mu)) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x3727C5AC#32))))))
    (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

theorem normed_at (n : Fin 16) (s : Fin 2048) (j : Fin 1024) : (normed x g b (ix3 n s j) : EReal)
    = norm (fun k => x (ix3 n s k)) (fun k => g (ix1 k)) (fun k => b (ix1 k)) j := by
  pointwise [normed]
  rfl

/-- The normed input times the whole matrix. -/
def product : FVec Ideal S16x2048x11304 .f32 :=
  Host.dotGeneral dot_S16x2048x1024_S1024x11304_S16x2048x11304_2_0_01_1_n_n none (normed x g b)
    (shapeCast S1024x11304 w shapeCasts_S1x1024x11304_S1024x11304)

theorem product_at (n : Fin 16) (s : Fin 2048) (j : Fin 11304) : (product x g b w (ix3 n s j) : EReal)
    = rowMul (norm (fun k => x (ix3 n s k)) (fun k => g (ix1 k)) (fun k => b (ix1 k))) (fun k j => w (ix3 0 k j)) j := by
  pointwise [product]
  simp only [normed_at]
  rfl
end

variable (m : (ℓ : Loc nD τ sig) → Buf (Elt Ideal) ℓ) (c : Dev nD)

/-- The arguments' rows. -/
abbrev rX (R : Fin 32768) (k : Fin 1024) : EReal :=
  m ((c : Thread nD τ).loc main_arg0) (ix3 (⟨R.val / 2048, by omega⟩ : Fin 16) (⟨R.val % 2048, by omega⟩ : Fin 2048) k)
abbrev rG (k : Fin 1024) : EReal := m ((c : Thread nD τ).loc main_arg1) (ix1 k)
abbrev rB (k : Fin 1024) : EReal := m ((c : Thread nD τ).loc main_arg2) (ix1 k)
abbrev rW (k : Fin 1024) (j : Fin 11304) : EReal := m ((c : Thread nD τ).loc main_arg3) (ix3 0 k j)
abbrev rH (R : Fin 32768) : Fin 1024 → EReal := norm (rX m c R) (rG m c) (rB m c)

/-- The product of the program's arguments. -/
abbrev whole : FVec Ideal S16x2048x11304 .f32 :=
  product (m ((c : Thread nD τ).loc main_arg0)) (m ((c : Thread nD τ).loc main_arg1)) (m ((c : Thread nD τ).loc main_arg2))
    (m ((c : Thread nD τ).loc main_arg3))

theorem wide_eq : res_main_v42 m c = truncf .bf16 (shapeCast S32768x11264 (wideOf (whole m c)) shapeCasts_S16x2048x11264_S32768x11264)
    bitsLt_bf16_f32 := rfl

theorem narrow_eq : res_main_v44 m c = transpose S512x128x64 [0, 2, 1]
    (shapeCast S512x64x128 (narrowOf (whole m c)) shapeCasts_S16x2048x128_S512x64x128) transposes_S512x64x128_S512x128x64_0_2_1 := rfl

theorem h_at (R : Fin 32768) (j : Fin 1024) :
    (shapeCast S32768x1024 (normed (m ((c : Thread nD τ).loc main_arg0)) (m ((c : Thread nD τ).loc main_arg1))
      (m ((c : Thread nD τ).loc main_arg2))) shapeCasts_S16x2048x1024_S32768x1024 (ix2 R j) : EReal) = rH m c R j := by
  pointwise []
  exact normed_at _ _ _ _ _ _

theorem wide_at (R : Fin 32768) (j : Fin 11264) : (res_main_v42 m c (ix2 R j) : EReal) = wideRow (rH m c R) (rW m c) j := by
  rw [wide_eq]
  pointwise []
  rw [wideOf_at]
  exact product_at _ _ _ _ _ _ _

theorem narrow_at (n : Fin 512) (j : Fin 128) (l : Fin 64) :
    (res_main_v44 m c (ix3 n j l) : EReal) = narrowRow (rH m c (chunkRow n l)) (rW m c) j := by
  rw [narrow_eq]
  pointwise []
  rw [narrowOf_at]
  have e : (fun k => m ((c : Thread nD τ).loc main_arg0) (ix3 (⟨n.val / 32, by omega⟩ : Fin 16) (⟨n.val % 32 * 64 + l.val, by omega⟩ : Fin 2048) k))
      = rX m c (chunkRow n l) := funext fun k => congrArg₂ (fun a b => m ((c : Thread nD τ).loc main_arg0) (ix3 a b k))
    (Fin.ext (by show n.val / 32 = (n.val * 64 + l.val) / 2048; omega))
    (Fin.ext (by show n.val % 32 * 64 + l.val = (n.val * 64 + l.val) % 2048; omega))
  unfold narrowRow
  split_ifs
  · refine (product_at _ _ _ _ _ _ _).trans ?_
    exact congrArg (fun x => rowMul (norm x (rG m c) (rB m c)) (rW m c) (narrowCol j)) e
  · rfl

end Cert.ProjRef

end
-- ==== Proof.ProjClaim.lean ====
/- The input projection's claims: the frame of the kernel at both instances, the reference's, and that they agree. -/
module

public import proofs.«01_k».proof.Defs
public import proofs.«01_k».proof.Proof.ProjValue
public import proofs.«01_k».proof.Proof.ProjRef
public import proofs.«01_k».proof.Proof.Gen.KProj
public import proofs.«01_k».proof.Proof.Gen.KProjIdeal
public import Idealize.ShloMosaic.Lib.Quiescent

@[expose] public section

set_option maxRecDepth 65536

noncomputable section

namespace Cert.Proof

open Idealize.ShloMosaic Idealize.ShloMosaic.TcCoe Idealize.SL.Sem

/-! ## The frames: both kernel programs have one text -/

theorem body_text {F : FTy → Type} [FloatOps F] : Cert.KProj.defs₀ (F := F) = Cert.KProjIdeal.defs₀ (F := F) := by
  unfold Cert.KProj.defs₀ Cert.KProjIdeal.defs₀
  refine congrArg Defs.onTc ?_
  funext l a
  fin_cases l
  rfl

theorem defs_text {F : FTy → Type} [FloatOps F] : Cert.KProj.defs (F := F) = Cert.KProjIdeal.defs (F := F) :=
  congrArg (Pipeline.defs Cert.KProj.pcfgs) body_text

theorem quiescent_KProj : quiescent_KProj := fun m ρ _ => by
  rw [defs_text]
  exact Cert.Proj.frame_all (F := Bits) m ρ

theorem quiescent_KProjIdeal : quiescent_KProjIdeal := fun m ρ _ => Cert.Proj.frame_all (F := Ideal) m ρ

theorem quiescent_RProjIdeal : quiescent_RProjIdeal := fun m ρ _ =>
  (θ_run Cert.RProjIdeal.defs _ _).mono (fun r h => ⟨fun c => (h c).2.2.2, sem_eq_zero_of_no_sems (by decide) r.2⟩)
    (Cert.RProjIdeal.Value.run (F := Ideal) m ρ)

/-! ## The values -/

open Cert.Proj in
/-- The kernel's run, its three results named. -/
theorem proj_run (m : (ℓ : Loc Cert.KProjIdeal.nD Cert.KProjIdeal.τ Cert.KProjIdeal.sig) → Buf (Elt Ideal) ℓ)
    (ρ : Dev Cert.KProjIdeal.nD → PrngReg) :
    θ_run (Cert.KProjIdeal.defs (F := Ideal)) (onTc (τ := Cert.KProjIdeal.τ) (Cert.KProjIdeal.main (F := Ideal)))
      ⟨m, fun _ => 0, ρ⟩ (fun r => ∀ c : Dev Cert.KProjIdeal.nD,
        (r.2.mem ((c.tc : Thread Cert.KProjIdeal.nD Cert.KProjIdeal.τ).loc Cert.KProjIdeal.main_v20_0) = res0 m c
        ∧ r.2.mem ((c.tc : Thread Cert.KProjIdeal.nD Cert.KProjIdeal.τ).loc Cert.KProjIdeal.main_v20_1) = res1 m c
        ∧ r.2.mem ((c.tc : Thread Cert.KProjIdeal.nD Cert.KProjIdeal.τ).loc Cert.KProjIdeal.main_v20_2) = res2 m c)) :=
  (θ_run Cert.KProjIdeal.defs _ _).mono (fun _ h c => ⟨((h.1 c).1 5).trans (final_5 m c),
    ((h.1 c).1 6).trans (final_6 m c), ((h.1 c).1 7).trans (final_7 m c)⟩) (run_all m ρ)

/-- The normed input, the wide product and the narrow one in chunks are the reference's. -/
theorem algebraic_KProjIdeal_RProjIdeal : algebraic_KProjIdeal_RProjIdeal := by
  intro m ρ m' ρ' _ hagree
  refine ⟨Cert.Proj.res0 m, Cert.Proj.res1 m, Cert.Proj.res2 m,
    (θ_run Cert.KProjIdeal.defs _ _).mono (fun _ h c => ⟨(h.1 c).1, (h.1 c).2.1, (h.1 c).2.2, h.2.1 c⟩)
      (θ_run_and (proj_run m ρ) (Cert.Proj.frame_all (F := Ideal) m ρ)), ?_⟩
  refine (θ_run Cert.RProjIdeal.defs _ _).mono (fun _ h c => ?_) (Cert.RProjIdeal.Value.run (F := Ideal) m' ρ')
  obtain ⟨h0, h1, h2, h3⟩ := hagree c
  have eX : Cert.ProjRef.rX m' c = Cert.Proj.kX m c := funext fun _ => funext fun _ => congrFun h0 _
  have eG : Cert.ProjRef.rG m' c = Cert.Proj.kG m c := funext fun _ => congrFun h1 _
  have eB : Cert.ProjRef.rB m' c = Cert.Proj.kB m c := funext fun _ => congrFun h2 _
  have eW : Cert.ProjRef.rW m' c = Cert.Proj.kW m c := funext fun _ => funext fun _ => congrFun h3 _
  have eH : Cert.ProjRef.rH m' c = Cert.Proj.kH m c := by
    unfold Cert.ProjRef.rH Cert.Proj.kH
    rw [eX, eG, eB]
  refine ⟨(h c).1.trans ?_, (h c).2.1.trans ?_, (h c).2.2.1.trans ?_, (h c).2.2.2⟩
  · funext (i : Cert.KProjIdeal.S32768x1024.Idx)
    obtain ⟨R, j, rfl⟩ : ∃ (R : Fin 32768) (j : Fin 1024), i = ix2 R j := ⟨i 0, i 1, by funext a; fin_cases a <;> rfl⟩
    refine (Cert.ProjRef.h_at m' c R j).trans ?_
    rw [eH]; rfl
  · funext (i : Cert.KProjIdeal.S32768x11264.Idx)
    obtain ⟨R, j, rfl⟩ : ∃ (R : Fin 32768) (j : Fin 11264), i = ix2 R j := ⟨i 0, i 1, by funext a; fin_cases a <;> rfl⟩
    refine (Cert.ProjRef.wide_at m' c R j).trans ?_
    rw [eH, eW]; rfl
  · funext (i : Cert.KProjIdeal.S512x128x64.Idx)
    obtain ⟨n, j, l, rfl⟩ : ∃ (n : Fin 512) (j : Fin 128) (l : Fin 64), i = ix3 n j l :=
      ⟨i 0, i 1, i 2, by funext a; fin_cases a <;> rfl⟩
    refine (Cert.ProjRef.narrow_at m' c n j l).trans ?_
    rw [eH, eW]; rfl

end Cert.Proof

end
-- ==== Proof.MemClaim.lean ====
/- The memory's keys and values: both programs multiply every memory row by the two matrices. -/
module

public import proofs.«01_k».proof.Defs
public import proofs.«01_k».proof.Proof.Rows
public import proofs.«01_k».proof.Proof.Gen.KMem.Frame
public import proofs.«01_k».proof.Proof.Gen.KMemIdeal.Value
public import proofs.«01_k».proof.Proof.Gen.RMemIdeal.Run
public import Idealize.ShloMosaic.Lib.Pipeline.ValueKit
public import Idealize.ShloMosaic.Lib.Quiescent

@[expose] public section

set_option maxRecDepth 16384

noncomputable section

namespace Cert.Mem

open Idealize.ShloMosaic Idealize.ShloMosaic.TcCoe Idealize.SL.Sem Idealize.ShloMosaic.Tactic
open Cert.KMemIdeal Cert.KMemIdeal.Gen Cert.KMemIdeal.Value Cert.Rows

variable (m : (ℓ : Loc nD τ sig) → Buf (Elt Ideal) ℓ) (c : Dev nD) (t : Fin cfg0.N)

theorem points : t.val < 8 := t.isLt.trans_eq N_0

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![t.val, 0] := by decide +kernel

/-- Row `r` of a point's row block, as a row of all the memory. -/
def rowAt (r : Fin 512) : Fin 4096 := ⟨t.val * 512 + r.val, by have := points t; omega⟩

/-- The arguments' rows. -/
abbrev kMem (R : Fin 4096) (k : Fin 1024) : EReal :=
  m ((c : Thread nD τ).loc main_arg0) (ix3 (⟨R.val / 256, by omega⟩ : Fin 16) (⟨R.val % 256, by omega⟩ : Fin 256) k)
abbrev kWk (k j : Fin 1024) : EReal := m ((c : Thread nD τ).loc main_arg1) (ix3 0 k j)
abbrev kWv (k j : Fin 1024) : EReal := m ((c : Thread nD τ).loc main_arg2) (ix3 0 k j)

theorem block_0_at (r : Fin 512) (k : Fin 1024) : iblk m c 0 t (ix2 r k) = kMem m c (rowAt t r) k := by
  blk_ext! [iblk, V, index_0 t, rowAt]
theorem block_1_at (k j : Fin 1024) : iblk m c 1 t (ix2 k j) = kWk m c k j := by
  blk_ext! [iblk, V, index_1 t]
theorem block_2_at (k j : Fin 1024) : iblk m c 2 t (ix2 k j) = kWv m c k j := by
  blk_ext! [iblk, V, index_2 t]

theorem kept_at (r : Fin 512) (k : Fin 1024) : (k0_pay1 (iblk m c 0 t) (ix2 r k) : EReal) = kMem m c (rowAt t r) k := by
  pointwise [k0_pay1]
  exact block_0_at m c t r k

/-- The memory's rows through a matrix. -/
def through (w : Fin 1024 → Fin 1024 → EReal) : S4096x1024.Idx → EReal := fun i => rowMul (kMem m c (i 0)) w (i 1)

theorem final_3 : (dats m 0 c).arrAt 3 cfg0.N = through m c (kWk m c) := by
  refine (dats m 0 c).arrAt_eq_of_covers 3 _ (by decide +kernel) fun t hf (y : S512x1024.Idx) => ?_
  blk_simp
  rw [after0_3]
  frame_out
  obtain ⟨r, j, rfl⟩ : ∃ (r : Fin 512) (j : Fin 1024), y = ix2 r j := ⟨y 0, y 1, by funext a; fin_cases a <;> rfl⟩
  pointwise [k0_pay2]
  simp only [kept_at, block_1_at]
  refine congrArg₂ (fun R j => rowMul (kMem m c R) (kWk m c) j) (Fin.ext ?_) (Fin.ext ?_)
  · show t.val * 512 + r.val = win0_3.index t (0 : Fin 2) * 512 + 1 * r.val
    rw [congrFun (index_3 t) 0]; show _ = t.val * 512 + _; omega
  · show j.val = win0_3.index t (1 : Fin 2) * 1024 + 1 * j.val
    rw [congrFun (index_3 t) 1]; show _ = 0 * 1024 + _; omega

theorem final_4 : (dats m 0 c).arrAt 4 cfg0.N = through m c (kWv m c) := by
  refine (dats m 0 c).arrAt_eq_of_covers 4 _ (by decide +kernel) fun t hf (y : S512x1024.Idx) => ?_
  blk_simp
  rw [after0_4]
  frame_out
  obtain ⟨r, j, rfl⟩ : ∃ (r : Fin 512) (j : Fin 1024), y = ix2 r j := ⟨y 0, y 1, by funext a; fin_cases a <;> rfl⟩
  pointwise [k0_pay3]
  simp only [kept_at, block_2_at]
  refine congrArg₂ (fun R j => rowMul (kMem m c R) (kWv m c) j) (Fin.ext ?_) (Fin.ext ?_)
  · show t.val * 512 + r.val = win0_4.index t (0 : Fin 2) * 512 + 1 * r.val
    rw [congrFun (index_4 t) 0]; show _ = t.val * 512 + _; omega
  · show j.val = win0_4.index t (1 : Fin 2) * 1024 + 1 * j.val
    rw [congrFun (index_4 t) 1]; show _ = 0 * 1024 + _; omega

end Cert.Mem

namespace Cert.MemRef

open Idealize.ShloMosaic Cert.RMemIdeal Cert.RMemIdeal.Gen Cert.Rows

/-- Either result of the plain program, from the memory and its matrix. -/
def result (x : FVec Ideal S16x256x1024 .f32) (w : FVec Ideal S1x1024x1024 .f32) : FVec Ideal S4096x1024 .bf16 :=
  truncf .bf16 (shapeCast S4096x1024 (Host.dotGeneral dot_S16x256x1024_S1024x1024_S16x256x1024_2_0_01_1_n_n none x
    (shapeCast S1024x1024 w shapeCasts_S1x1024x1024_S1024x1024)) shapeCasts_S16x256x1024_S4096x1024) bitsLt_bf16_f32

theorem result_at (x : FVec Ideal S16x256x1024 .f32) (w : FVec Ideal S1x1024x1024 .f32) (R : Fin 4096) (j : Fin 1024) :
    (result x w (ix2 R j) : EReal)
      = rowMul (fun k => x (ix3 (⟨R.val / 256, by omega⟩ : Fin 16) (⟨R.val % 256, by omega⟩ : Fin 256) k))
          (fun k j => w (ix3 0 k j)) j := by
  pointwise [result]
  rfl

end Cert.MemRef

namespace Cert.Proof

open Idealize.ShloMosaic Idealize.ShloMosaic.TcCoe Idealize.SL.Sem

theorem quiescent_RMemIdeal : quiescent_RMemIdeal := fun m ρ _ =>
  (θ_run Cert.RMemIdeal.defs _ _).mono (fun r h => ⟨fun c => (h c).2.2, sem_eq_zero_of_no_sems (by decide) r.2⟩)
    (Cert.RMemIdeal.Value.run (F := Ideal) m ρ)

/-- The keys and the values of the kernel are the reference's. -/
theorem algebraic_KMemIdeal_RMemIdeal : algebraic_KMemIdeal_RMemIdeal := by
  intro m ρ m' ρ' _ hagree
  refine ⟨fun c => Cert.Mem.through m c (Cert.Mem.kWk m c), fun c => Cert.Mem.through m c (Cert.Mem.kWv m c),
    (θ_run Cert.KMemIdeal.defs _ _).mono (fun _ h c => ⟨(h c).1.trans (Cert.Mem.final_3 m c),
      (h c).2.1.trans (Cert.Mem.final_4 m c), (h c).2.2⟩) (Cert.KMemIdeal.Value.run_blocks (F := Ideal) m ρ), ?_⟩
  refine (θ_run Cert.RMemIdeal.defs _ _).mono (fun _ h c => ⟨?_, ?_, (h c).2.2⟩)
    (Cert.RMemIdeal.Value.run (F := Ideal) m' ρ')
  · refine (h c).1.trans ?_
    funext (i : Cert.KMemIdeal.S4096x1024.Idx)
    obtain ⟨R, j, rfl⟩ : ∃ (R : Fin 4096) (j : Fin 1024), i = ix2 R j := ⟨i 0, i 1, by funext a; fin_cases a <;> rfl⟩
    refine (Cert.MemRef.result_at _ _ R j).trans ?_
    rw [(hagree c).1, (hagree c).2.1]
    rfl
  · refine (h c).2.1.trans ?_
    funext (i : Cert.KMemIdeal.S4096x1024.Idx)
    obtain ⟨R, j, rfl⟩ : ∃ (R : Fin 4096) (j : Fin 1024), i = ix2 R j := ⟨i 0, i 1, by funext a; fin_cases a <;> rfl⟩
    refine (Cert.MemRef.result_at _ _ R j).trans ?_
    rw [(hagree c).1, (hagree c).2.2]
    rfl

end Cert.Proof

end
-- ==== Proof.ExpRun.lean ====
/- One run of the experts' body on whole buffers: past the last block in use it writes zeros; at the first block of an
   expert it rounds the expert's two matrices into scratch; at every block in use it writes the expert's output for the
   block's rows, computed from the matrices in scratch. -/
module

public import proofs.«01_k».proof.Proof.Gen.KExpIdeal
public import proofs.«01_k».proof.Proof.Gen.KExpIdeal.Skeleton
public import proofs.«01_k».proof.Proof.Gen.KExpIdeal.Launch
public import Idealize.ShloMosaic.Lib.Pipeline.ValueKit
public import Idealize.ShloMosaic.Lib.VecWindow

@[expose] public section

set_option maxRecDepth 16384

noncomputable section

namespace Cert.Exp

open Cert.KExpIdeal Cert.KExpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and the two scratch buffers as the pipeline passes them. -/
abbrev tbE : Memref sig .tc .smem S288 .i32 := Memref.whole main_v22
abbrev tbN : Memref sig .tc .smem S1 .i32 := Memref.whole main_v24
abbrev scG : Memref sig .tc .vmem S1024x2048 .bf16 := Memref.whole cc0_scratch0
abbrev scD : Memref sig .tc .vmem S1024x1024 .bf16 := Memref.whole cc0_scratch1

/-- The words the body reads: how many blocks are in use, -/
abbrev wordN (T1 : S1.Idx → Elt F .i32) : Elt F .i32 :=
  View.readAt (Elt F) tbN.view (Rect.unit (s := S1) ![0] S1.size inb_S1_S1_0).toLoadRect T1 (Shape.Idx.first (numel1_S1.symm ▸ Nat.one_pos))
/-- the block's expert, -/
abbrev wordE (i : grid0.Coords) (T0 : S288.Idx → Elt F .i32) : Elt F .i32 :=
  View.readAt (Elt F) tbE.view (Rect.unit (s := S288) (k0_off2 i) S1.size (k0_off2_inb i)).toLoadRect T0 (Shape.Idx.first (numel1_S1.symm ▸ Nat.one_pos))
/-- and the expert of the block before. -/
abbrev wordP (i : grid0.Coords) (T0 : S288.Idx → Elt F .i32) : Elt F .i32 :=
  View.readAt (Elt F) tbE.view (Rect.unit (s := S288) (k0_off3 i) S1.size (k0_off3_inb i)).toLoadRect T0 (Shape.Idx.first (numel1_S1.symm ▸ Nat.one_pos))

/-- The body's three branches: past the last block in use, -/
abbrev past (i : grid0.Coords) (T1 : S1.Idx → Elt F .i32) : Prop := k0_cond1 i (wordN T1) = 1#1
/-- at an expert's first block, -/
abbrev opens (i : grid0.Coords) (T0 : S288.Idx → Elt F .i32) (T1 : S1.Idx → Elt F .i32) : Prop :=
  Scalar.cmpi .ne (Scalar.extui (Scalar.andi (Scalar.cmpi .slt (BitVec.ofNat 32 (i 0).val) (wordN T1))
    (Scalar.ori (Scalar.cmpi .eq (BitVec.ofNat 32 (i 0).val) 0#32) (Scalar.cmpi .ne (wordE i T0) (wordP i T0))))) 0#32 = 1#1
/-- in use. -/
abbrev used (i : grid0.Coords) (T1 : S1.Idx → Elt F .i32) : Prop := k0_cond3 i (wordN T1) = 1#1

set_option maxHeartbeats 2000000 in
/-- Past the last block in use: zeros, and the scratch keeps what it holds. -/
theorem run_past (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (T0 : S288.Idx → Elt F .i32) (T1 : S1.Idx → Elt F .i32)
    (h1 : past i T1) (h2 : ¬ opens i T0 T1) (h3 : ¬ used i T1)
    (x0 : Vec F S512x1024 .f32) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbE.view.loc (c : Thread nD τ) ↦{fullShare.right} T0) ∗ (tbN.view.loc (c : Thread nD τ) ↦{fullShare.right} T1) ∗ (∃ d, owns (c : Thread nD τ) arg8 fullShare d) ∗ owns (c : Thread nD τ) scG fullShare s0 ∗ owns (c : Thread nD τ) scD fullShare s1 ∗ ((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbE.view.loc (c : Thread nD τ) ↦{fullShare.right} T0) ∗ (tbN.view.loc (c : Thread nD τ) ↦{fullShare.right} T1) ∗ owns (c : Thread nD τ) arg8 fullShare (k0_pay1 (F := F)) ∗ owns (c : Thread nD τ) scG fullShare s0 ∗ owns (c : Thread nD τ) scD fullShare s1) -∗ K ⟨⟩))
      ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 scG (Memref.isWhole_whole _) scD (Memref.isWhole_whole _)) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%fs0, %hfs0, HS0⟩, ⟨%fs1, %hfs1, HS1⟩, Hk⟩
  have hsc0 : scG.IsWhole := Memref.isWhole_whole _
  have hsc1 : scD.IsWhole := Memref.isWhole_whole _
  have htb0 : tbE.IsWhole := Memref.isWhole_whole _
  have htb1 : tbN.IsWhole := Memref.isWhole_whole _
  obtain rfl := harg3.eq_unread hf0; obtain rfl := harg4.eq_unread hf1; obtain rfl := harg5.eq_unread hf2; obtain rfl := harg6.eq_unread hf3; obtain rfl := harg7.eq_unread hf4
  obtain rfl := hsc0.eq_unread hfs0; obtain rfl := hsc1.eq_unread hfs1
  sl_exec! (disch := first | (guard_target = k0_cond1 _ _ = _; exact h1) | (guard_target = ¬(Scalar.cmpi _ _ _ = _); exact h2) | (guard_target = ¬(k0_cond3 _ _ = _); exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HT0]; · iexact HT0
  isplitl [HT1]; · iexact HT1
  isplitl [H5]
  · iexists _; isplitr; swap; · iexact H5
    ipureintro
    sl_unfold_words
    rw [View.read_writes_full]
  isplitl [HS0]
  · iexists _; isplitr; swap; · iexact HS0
    ipureintro
    exact hsc0.read_unread _
  iexists _; isplitr; swap; · iexact HS1
  ipureintro
  exact hsc1.read_unread _

set_option maxHeartbeats 2000000 in
/-- An expert's first block: its matrices go to scratch, rounded, and the output is computed from them. -/
theorem run_open (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (T0 : S288.Idx → Elt F .i32) (T1 : S1.Idx → Elt F .i32)
    (h1 : ¬ past i T1) (h2 : opens i T0 T1) (h3 : used i T1)
    (x0 : Vec F S512x1024 .f32) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbE.view.loc (c : Thread nD τ) ↦{fullShare.right} T0) ∗ (tbN.view.loc (c : Thread nD τ) ↦{fullShare.right} T1) ∗ (∃ d, owns (c : Thread nD τ) arg8 fullShare d) ∗ owns (c : Thread nD τ) scG fullShare s0 ∗ owns (c : Thread nD τ) scD fullShare s1 ∗ ((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbE.view.loc (c : Thread nD τ) ↦{fullShare.right} T0) ∗ (tbN.view.loc (c : Thread nD τ) ↦{fullShare.right} T1) ∗ owns (c : Thread nD τ) arg8 fullShare (k0_pay4 x0 (k0_pay2 x1) x2 (k0_pay3 x3) x4) ∗ owns (c : Thread nD τ) scG fullShare (k0_pay2 x1) ∗ owns (c : Thread nD τ) scD fullShare (k0_pay3 x3)) -∗ K ⟨⟩))
      ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 scG (Memref.isWhole_whole _) scD (Memref.isWhole_whole _)) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%fs0, %hfs0, HS0⟩, ⟨%fs1, %hfs1, HS1⟩, Hk⟩
  have hsc0 : scG.IsWhole := Memref.isWhole_whole _
  have hsc1 : scD.IsWhole := Memref.isWhole_whole _
  have htb0 : tbE.IsWhole := Memref.isWhole_whole _
  have htb1 : tbN.IsWhole := Memref.isWhole_whole _
  obtain rfl := harg3.eq_unread hf0; obtain rfl := harg4.eq_unread hf1; obtain rfl := harg5.eq_unread hf2; obtain rfl := harg6.eq_unread hf3; obtain rfl := harg7.eq_unread hf4
  obtain rfl := hsc0.eq_unread hfs0; obtain rfl := hsc1.eq_unread hfs1
  sl_exec! (disch := first | (guard_target = ¬(k0_cond1 _ _ = _); exact h1) | (guard_target = Scalar.cmpi _ _ _ = _; exact h2) | (guard_target = k0_cond3 _ _ = _; exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HT0]; · iexact HT0
  isplitl [HT1]; · iexact HT1
  isplitl [H5]
  · iexists _; isplitr; swap; · iexact H5
    ipureintro
    sl_unfold_words
    rw [View.read_writes_full]
    simp only [View.readAt_eq_ld, Memref.IsWhole.read_unread, View.readCov_cons_toLoadRect]
    rw [View.ld_unit_lit, View.ld_unit_lit, View.ld_unit_lit, View.ld_unit_lit, View.ld_unit_lit] <;> decide
  isplitl [HS0]
  · iexists _; isplitr; swap; · iexact HS0
    ipureintro
    sl_unfold_words
    rw [View.read_writes_full]
    simp only [View.readAt_eq_ld, Memref.IsWhole.read_unread, View.readCov_cons_toLoadRect]
    rw [View.ld_unit_lit] <;> decide
  iexists _; isplitr; swap; · iexact HS1
  ipureintro
  sl_unfold_words
  rw [View.read_writes_full]
  simp only [View.readAt_eq_ld, Memref.IsWhole.read_unread, View.readCov_cons_toLoadRect]
  rw [View.ld_unit_lit] <;> decide

set_option maxHeartbeats 2000000 in
/-- A further block of the same expert: the output is computed from the matrices in scratch. -/
theorem run_same (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (T0 : S288.Idx → Elt F .i32) (T1 : S1.Idx → Elt F .i32)
    (h1 : ¬ past i T1) (h2 : ¬ opens i T0 T1) (h3 : used i T1)
    (x0 : Vec F S512x1024 .f32) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbE.view.loc (c : Thread nD τ) ↦{fullShare.right} T0) ∗ (tbN.view.loc (c : Thread nD τ) ↦{fullShare.right} T1) ∗ (∃ d, owns (c : Thread nD τ) arg8 fullShare d) ∗ owns (c : Thread nD τ) scG fullShare s0 ∗ owns (c : Thread nD τ) scD fullShare s1 ∗ ((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbE.view.loc (c : Thread nD τ) ↦{fullShare.right} T0) ∗ (tbN.view.loc (c : Thread nD τ) ↦{fullShare.right} T1) ∗ owns (c : Thread nD τ) arg8 fullShare (k0_pay4 x0 s0 x2 s1 x4) ∗ owns (c : Thread nD τ) scG fullShare s0 ∗ owns (c : Thread nD τ) scD fullShare s1) -∗ K ⟨⟩))
      ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 scG (Memref.isWhole_whole _) scD (Memref.isWhole_whole _)) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, ⟨%fs0, %hfs0, HS0⟩, ⟨%fs1, %hfs1, HS1⟩, Hk⟩
  have hsc0 : scG.IsWhole := Memref.isWhole_whole _
  have hsc1 : scD.IsWhole := Memref.isWhole_whole _
  have htb0 : tbE.IsWhole := Memref.isWhole_whole _
  have htb1 : tbN.IsWhole := Memref.isWhole_whole _
  obtain rfl := harg3.eq_unread hf0; obtain rfl := harg4.eq_unread hf1; obtain rfl := harg5.eq_unread hf2; obtain rfl := harg6.eq_unread hf3; obtain rfl := harg7.eq_unread hf4
  obtain rfl := hsc0.eq_unread hfs0; obtain rfl := hsc1.eq_unread hfs1
  sl_exec! (disch := first | (guard_target = ¬(k0_cond1 _ _ = _); exact h1) | (guard_target = ¬(Scalar.cmpi _ _ _ = _); exact h2) | (guard_target = k0_cond3 _ _ = _; exact h3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HT0]; · iexact HT0
  isplitl [HT1]; · iexact HT1
  isplitl [H5]
  · iexists _; isplitr; swap; · iexact H5
    ipureintro
    sl_unfold_words
    rw [View.read_writes_full]
    simp only [View.readAt_eq_ld, Memref.IsWhole.read_unread, View.readCov_cons_toLoadRect]
    rw [View.ld_unit_lit, View.ld_unit_lit, View.ld_unit_lit, View.ld_unit_lit, View.ld_unit_lit]
    · exact congrArg₂ (fun g d => k0_pay4 x0 g x2 d x4) (hsc0.read_unread s0) (hsc1.read_unread s1)
    all_goals decide
  isplitl [HS0]
  · iexists _; isplitr; swap; · iexact HS0
    ipureintro
    exact hsc0.read_unread _
  iexists _; isplitr; swap; · iexact HS1
  ipureintro
  exact hsc1.read_unread _

end Cert.Exp

end
-- ==== Proof.ExpBody.lean ====
/- The experts' pipeline at any admissible contents of its two tables (each block's expert, and how many blocks are in
   use): what every grid point finds and leaves in each window's buffer and in the scratch, and the body at every point. -/
module

public import proofs.«01_k».proof.Proof.ExpRun
public import Idealize.ShloMosaic.Lib.Pipeline.ValueKit
public import Idealize.ShloMosaic.Lib.Pipeline.TableIdle
public import Idealize.ShloMosaic.Lib.Pipeline.FrameBody
public import Idealize.ShloMosaic.Lib.WordCmp

@[expose] public section

set_option maxRecDepth 16384

noncomputable section

namespace Cert.Exp

open Cert.KExpIdeal Cert.KExpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words -/

/-- A small number's word, read signed, is the number. -/
theorem small_word (n : ℕ) (h : n < 288) : (BitVec.ofNat 32 n).toInt = (n : ℤ) := by
  have hn : (BitVec.ofNat 32 n).toNat = n := by rw [BitVec.toNat_ofNat]; exact Nat.mod_eq_of_lt (by omega)
  rw [BitVec.toInt_eq_toNat_of_lt (by rw [hn]; omega), hn]

/-- The body's two outer conditions are each other's negation. -/
theorem past_or_used (i : grid0.Coords) (w : BitVec 32) : k0_cond1 i w = 1#1 ↔ ¬ k0_cond3 i w = 1#1 := by
  unfold k0_cond1 k0_cond3
  dsimp only
  generalize Scalar.cmpi .slt (BitVec.ofNat 32 (i 0).val) w = b
  revert b
  decide

/-- A block is in use when its number is below the count, read as a signed word. -/
theorem used_word (i : grid0.Coords) (w : BitVec 32) : k0_cond3 i w = 1#1 ↔ ((i 0).val : ℤ) < w.toInt := by
  have h1 : (i 0).val < 288 := (i 0).isLt
  have h2 : (BitVec.ofNat 32 (i 0).val).toInt = ((i 0).val : ℤ) := small_word _ h1
  have h3 : k0_cond3 i w = 1#1 ↔ Scalar.cmpi .slt (BitVec.ofNat 32 (i 0).val) w = 1#1 := by
    unfold k0_cond3
    dsimp only
    generalize Scalar.cmpi .slt (BitVec.ofNat 32 (i 0).val) w = b
    revert b
    decide
  rw [h3, ← h2]
  show BitVec.ofBool ((BitVec.ofNat 32 (i 0).val).slt w) = 1#1 ↔ _
  rw [BitVec.slt]
  by_cases h : (BitVec.ofNat 32 (i 0).val).toInt < w.toInt <;> simp [h]

/-- A block opens its expert when it is in use and is the first of all or has another expert than the block before. -/
theorem opens_iff (i : grid0.Coords) (T0 : S288.Idx → Elt F .i32) (T1 : S1.Idx → Elt F .i32) :
    opens i T0 T1 ↔ used i T1 ∧ ((i 0).val = 0 ∨ wordE i T0 ≠ wordP i T0) := by
  have h1 : (i 0).val < 288 := (i 0).isLt
  have hz : Scalar.cmpi .eq (BitVec.ofNat 32 (i 0).val) 0#32 = 1#1 ↔ (i 0).val = 0 := by
    show BitVec.ofBool (BitVec.ofNat 32 (i 0).val == 0#32) = 1#1 ↔ _
    constructor
    · intro h
      have h' : BitVec.ofNat 32 (i 0).val = 0#32 := by
        by_contra hne
        rw [beq_eq_false_iff_ne.mpr hne] at h
        exact absurd h (by decide)
      have := congrArg BitVec.toNat h'
      rw [BitVec.toNat_ofNat, Nat.mod_eq_of_lt (by omega)] at this
      exact this
    · intro h; rw [h]; decide
  have hne : Scalar.cmpi .ne (wordE i T0) (wordP i T0) = 1#1 ↔ wordE i T0 ≠ wordP i T0 := by
    generalize wordE i T0 = x
    generalize wordP i T0 = y
    show BitVec.ofBool (!((x : BitVec 32) == y)) = 1#1 ↔ _
    by_cases h : (x : BitVec 32) = y
    · rw [beq_iff_eq.mpr h]; exact iff_of_false (by decide) (fun h' => h' h)
    · rw [beq_eq_false_iff_ne.mpr h]; exact iff_of_true (by decide) h
  unfold opens used
  rw [← hz, ← hne]
  unfold k0_cond3
  dsimp only
  generalize Scalar.cmpi .slt (BitVec.ofNat 32 (i 0).val) (wordN T1) = a
  generalize Scalar.cmpi .eq (BitVec.ofNat 32 (i 0).val) 0#32 = b
  generalize Scalar.cmpi .ne (wordE i T0) (wordP i T0) = d
  revert a b d
  decide

/-! ## The pipeline at the tables' contents -/

variable (a : (pcfg0 (F := F)).Adm) (V : (c : Dev nD) → (b : Ref sig .tc) → Buf (Elt F) ((c.tc : Thread nD τ).loc b))

/-- The two tables. -/
abbrev tE : S288.Idx → Elt F .i32 := a.1 0
abbrev tN : S1.Idx → Elt F .i32 := a.1 1

theorem points (t : Fin (cfg0 a).N) : t.val < 288 := Nat.lt_of_lt_of_eq t.isLt N_0

theorem coord (t : Fin (cfg0 a).N) : (grid0.coords t 0).val = t.val := by
  have h : (grid0.coords t 0).val = t.val / 1 % 288 := Pipeline.Grid.coords_val (G := grid0) t 0 (by decide) rfl
  have := points a t
  omega

/-- A window's block at a point. -/
def iblk (c : Dev nD) (w : Fin (cfg0 a).W) (t : Fin (cfg0 a).N) : (((cfg0 a).win w).xblock (grid0.coords t)).Idx → Elt F ((cfg0 a).win w).elt :=
  (((cfg0 a).win w).blk t).view.read (Elt F) (V c (Pipeline.arrRef spec0 w))

/-- A point in use. -/
def live (t : Fin (cfg0 a).N) : Prop := used (grid0.coords t) (tN a)

instance (t : Fin (cfg0 a).N) : Decidable (live a t) := by unfold live used; infer_instance

theorem live_iff (t : Fin (cfg0 a).N) : live a t ↔ (t.val : ℤ) < (wordN (tN a) : BitVec 32).toInt := by
  unfold live used
  rw [used_word, coord]

theorem live_before (t t' : Fin (cfg0 a).N) (h : t'.val ≤ t.val) (hl : live a t) : live a t' := by
  rw [live_iff] at hl ⊢; omega

/-- The rounded matrices of a point's expert, -/
def gTile (c : Dev nD) (t : Fin (cfg0 a).N) : Vec F S1024x2048 .bf16 := k0_pay2 (iblk a V c 1 t)
def dTile (c : Dev nD) (t : Fin (cfg0 a).N) : Vec F S1024x1024 .bf16 := k0_pay3 (iblk a V c 3 t)
/-- and a point's rows of the result. -/
def oTile (c : Dev nD) (t : Fin (cfg0 a).N) : Vec F S512x1024 .f32 :=
  if live a t then k0_pay4 (iblk a V c 0 t) (gTile a V c t) (iblk a V c 2 t) (dTile a V c t) (iblk a V c 4 t) else k0_pay1

/-- What the scratch holds before the point numbered `n`: the matrices of the expert of the point before, if that was in use. -/
def holds (c : Dev nD) (n : ℕ) (s0 : Vec F S1024x2048 .bf16) (s1 : Vec F S1024x1024 .bf16) : Prop :=
  ∀ t : Fin (cfg0 a).N, t.val + 1 = n → live a t → s0 = gTile a V c t ∧ s1 = dTile a V c t

/-- Between two points. -/
def between (c : Dev nD) (n : ℕ) : sProp 𝕄 :=
  iprop((∃ s0 s1, ⌜holds a V c n s0 s1⌝ ∗ owns (c : Thread nD τ) scG fullShare s0 ∗ owns (c : Thread nD τ) scD fullShare s1)
    ∗ (∃ r, prngReg c r)
    ∗ (tbE.view.loc (c : Thread nD τ) ↦{fullShare.right} tE a) ∗ (tbN.view.loc (c : Thread nD τ) ↦{fullShare.right} tN a))

/-- The region's own buffers at the start: the scratch at anything, and the generator register. -/
theorem start_eq (c : Dev nD) :
    (Pipeline.ΦA spec0 c : sProp 𝕄)
      = iprop(((∃ d, owns (c : Thread nD τ) scG fullShare d) ∗ (∃ d, owns (c : Thread nD τ) scD fullShare d)) ∗ (∃ r, prngReg c r)) := by
  unfold Pipeline.ΦA; rw [scopedRest0_eq]; simp only [scG, scD, owns_whole]; rfl

/-- The tables' halves, one by one. -/
theorem tables_eq (c : Dev nD) (v : pre0.Contents (Elt F)) :
    (Pipeline.ΦT pre0 v c : sProp 𝕄)
      = iprop((tbE.view.loc (c : Thread nD τ) ↦{fullShare.right} v 0) ∗ (tbN.view.loc (c : Thread nD τ) ↦{fullShare.right} v 1)) := by
  unfold Pipeline.ΦT Pipeline.prefHeld
  rw [show (Finset.univ : Finset (Fin 2)) = insert (0 : Fin 2) {(1 : Fin 2)} from by decide, bigSep_insert (by decide), bigSep_singleton]
  rfl

theorem between_start (c : Dev nD) : iprop(Pipeline.ΦA spec0 c ∗ Pipeline.ΦT pre0 a.1 c) ⊢ between a V c 0 := by
  rw [start_eq, tables_eq]
  unfold between
  iintro ⟨⟨⟨⟨%s0, H0⟩, ⟨%s1, H1⟩⟩, Hg⟩, HT0, HT1⟩
  isplitl [H0 H1]
  · iexists s0; iexists s1
    isplitr
    · ipureintro; intro t ht; exact absurd ht (Nat.succ_ne_zero _)
    isplitl [H0]; · iexact H0
    iexact H1
  isplitl [Hg]; · iexact Hg
  isplitl [HT0]; · iexact HT0
  iexact HT1

theorem between_end (c : Dev nD) (n : ℕ) : between a V c n ⊢ Pipeline.ΦA spec0 c := by
  rw [start_eq]
  unfold between
  iintro ⟨⟨%s0, %s1, -, H0, H1⟩, Hg, -, -⟩
  isplitl [H0 H1]
  · isplitl [H0]
    · iexists s0; iexact H0
    iexists s1; iexact H1
  iexact Hg

/-- The pipeline's data. -/
def dats (_ : Fin 1) (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => oTile a V c t
    | ⟨_ + 6, h⟩ => absurd h (Nat.not_lt.2 (Nat.le_add_left _ _))
  Φ t := between a V c t.val
  q _ := fullShare
  owed _ := 0

theorem after_0 (c : Dev nD) (t : Fin (cfg0 a).N) : (dats a V 0 c).after (0 : Fin 6) t = iblk a V c (0 : Fin 6) t := by dsimp only [dats]
theorem after_1 (c : Dev nD) (t : Fin (cfg0 a).N) : (dats a V 0 c).after (1 : Fin 6) t = iblk a V c (1 : Fin 6) t := by dsimp only [dats]
theorem after_2 (c : Dev nD) (t : Fin (cfg0 a).N) : (dats a V 0 c).after (2 : Fin 6) t = iblk a V c (2 : Fin 6) t := by dsimp only [dats]
theorem after_3 (c : Dev nD) (t : Fin (cfg0 a).N) : (dats a V 0 c).after (3 : Fin 6) t = iblk a V c (3 : Fin 6) t := by dsimp only [dats]
theorem after_4 (c : Dev nD) (t : Fin (cfg0 a).N) : (dats a V 0 c).after (4 : Fin 6) t = iblk a V c (4 : Fin 6) t := by dsimp only [dats]
theorem after_5 (c : Dev nD) (t : Fin (cfg0 a).N) : (dats a V 0 c).after (5 : Fin 6) t = oTile a V c t := by dsimp only [dats]

theorem fetched_0 (c : Dev nD) (t : Fin (cfg0 a).N) (d) : (dats a V 0 c).fetched (0 : Fin 6) t d = iblk a V c (0 : Fin 6) t := by
  unfold Dat.fetched Dat.blockOf iblk; rfl
theorem before_0 (c : Dev nD) (t : Fin (cfg0 a).N) (d) : (dats a V 0 c).before (0 : Fin 6) t d = iblk a V c (0 : Fin 6) t :=
  ((dats a V 0 c).before_in_eq_fetched (0 : Fin 6) rfl (fun _ => rfl) (fun _ _ _ => rfl)
    (fun t => by rw [after_0]; unfold Dat.blockOf iblk; rfl) t d).trans (fetched_0 a V c t d)
theorem fetched_1 (c : Dev nD) (t : Fin (cfg0 a).N) (d) : (dats a V 0 c).fetched (1 : Fin 6) t d = iblk a V c (1 : Fin 6) t := by
  unfold Dat.fetched Dat.blockOf iblk; rfl
theorem before_1 (c : Dev nD) (t : Fin (cfg0 a).N) (d) : (dats a V 0 c).before (1 : Fin 6) t d = iblk a V c (1 : Fin 6) t :=
  ((dats a V 0 c).before_in_eq_fetched (1 : Fin 6) rfl (fun _ => rfl) (fun _ _ _ => rfl)
    (fun t => by rw [after_1]; unfold Dat.blockOf iblk; rfl) t d).trans (fetched_1 a V c t d)
theorem fetched_2 (c : Dev nD) (t : Fin (cfg0 a).N) (d) : (dats a V 0 c).fetched (2 : Fin 6) t d = iblk a V c (2 : Fin 6) t := by
  unfold Dat.fetched Dat.blockOf iblk; rfl
theorem before_2 (c : Dev nD) (t : Fin (cfg0 a).N) (d) : (dats a V 0 c).before (2 : Fin 6) t d = iblk a V c (2 : Fin 6) t :=
  ((dats a V 0 c).before_in_eq_fetched (2 : Fin 6) rfl (fun _ => rfl) (fun _ _ _ => rfl)
    (fun t => by rw [after_2]; unfold Dat.blockOf iblk; rfl) t d).trans (fetched_2 a V c t d)
theorem fetched_3 (c : Dev nD) (t : Fin (cfg0 a).N) (d) : (dats a V 0 c).fetched (3 : Fin 6) t d = iblk a V c (3 : Fin 6) t := by
  unfold Dat.fetched Dat.blockOf iblk; rfl
theorem before_3 (c : Dev nD) (t : Fin (cfg0 a).N) (d) : (dats a V 0 c).before (3 : Fin 6) t d = iblk a V c (3 : Fin 6) t :=
  ((dats a V 0 c).before_in_eq_fetched (3 : Fin 6) rfl (fun _ => rfl) (fun _ _ _ => rfl)
    (fun t => by rw [after_3]; unfold Dat.blockOf iblk; rfl) t d).trans (fetched_3 a V c t d)
theorem fetched_4 (c : Dev nD) (t : Fin (cfg0 a).N) (d) : (dats a V 0 c).fetched (4 : Fin 6) t d = iblk a V c (4 : Fin 6) t := by
  unfold Dat.fetched Dat.blockOf iblk; rfl
theorem before_4 (c : Dev nD) (t : Fin (cfg0 a).N) (d) : (dats a V 0 c).before (4 : Fin 6) t d = iblk a V c (4 : Fin 6) t :=
  ((dats a V 0 c).before_in_eq_fetched (4 : Fin 6) rfl (fun _ => rfl) (fun _ _ _ => rfl)
    (fun t => by rw [after_4]; unfold Dat.blockOf iblk; rfl) t d).trans (fetched_4 a V c t d)

/-! ## Two neighbours of one expert have the same matrices -/

/-- The block's expert as the index maps read it. -/
theorem wordE_at (i : grid0.Coords) : wordE i (tE a)
    = a.1.at 0 (Rect.unit (s := S288) ![(Scalar.indexCast (BitVec.ofNat 32 (i 0).val) : Index).toNat] S1.size (k0_off1_inb i)) numel1_S1 := rfl

theorem index_G (t : Fin (cfg0 a).N) : ((cfg0 a).win 1).index t = ![(wordE (grid0.coords t) (tE a) : BitVec 32).toNat, 0, 0] := rfl
theorem index_D (t : Fin (cfg0 a).N) : ((cfg0 a).win 3).index t = ![(wordE (grid0.coords t) (tE a) : BitVec 32).toNat, 0, 0] := rfl

theorem wordP_eq (t t' : Fin (cfg0 a).N) (h : t'.val + 1 = t.val) : wordP (grid0.coords t) (tE a) = wordE (grid0.coords t') (tE a) := by
  have h0 := points a t
  have e : k0_off3 (grid0.coords t) = k0_off2 (grid0.coords t') := by
    unfold k0_off3 k0_off2
    dsimp only
    rw [coord a t, coord a t', ← h]
    have hs : Scalar.maxsi (Scalar.subi (BitVec.ofNat 32 (t'.val + 1)) 1#32) 0#32 = BitVec.ofNat 32 t'.val := by
      have hb : BitVec.ofNat 32 (t'.val + 1) - 1#32 = BitVec.ofNat 32 t'.val := by
        apply BitVec.eq_of_toNat_eq
        simp only [BitVec.toNat_sub, BitVec.toNat_ofNat]
        omega
      have hi : (BitVec.ofNat 32 t'.val).toInt = (t'.val : ℤ) := small_word _ (by omega)
      show Scalar.maxsi (BitVec.ofNat 32 (t'.val + 1) - 1#32) 0#32 = _
      rw [hb]
      show (if BitVec.slt 0#32 (BitVec.ofNat 32 t'.val) then _ else _) = _
      by_cases hz : t'.val = 0
      · rw [hz]; decide
      · rw [if_pos]
        rw [BitVec.slt, hi]
        simp; omega
    rw [hs]
  show (tE a) _ = (tE a) _
  congr 1
  funext k
  apply Fin.ext
  exact congrArg (· + 1 * _) (congrFun e k)

theorem gTile_same (c : Dev nD) (t t' : Fin (cfg0 a).N) (h : wordE (grid0.coords t) (tE a) = wordE (grid0.coords t') (tE a)) :
    gTile a V c t = gTile a V c t' := by
  unfold gTile
  rw [← fetched_1 a V c t (fun _ => default), ← fetched_1 a V c t' (fun _ => default)]
  exact congrArg k0_pay2 ((dats a V 0 c).fetched_congr (1 : Fin 6)
    (show ((cfg0 a).win 1).index t = ((cfg0 a).win 1).index t' from (index_G a t).trans (by rw [h]; exact (index_G a t').symm)) rfl _)
theorem dTile_same (c : Dev nD) (t t' : Fin (cfg0 a).N) (h : wordE (grid0.coords t) (tE a) = wordE (grid0.coords t') (tE a)) :
    dTile a V c t = dTile a V c t' := by
  unfold dTile
  rw [← fetched_3 a V c t (fun _ => default), ← fetched_3 a V c t' (fun _ => default)]
  exact congrArg k0_pay3 ((dats a V 0 c).fetched_congr (3 : Fin 6)
    (show ((cfg0 a).win 3).index t = ((cfg0 a).win 3).index t' from (index_D a t).trans (by rw [h]; exact (index_D a t').symm)) rfl _)

/-- A point in use that opens no expert finds its own matrices in the scratch. -/
theorem holds_same (c : Dev nD) (t : Fin (cfg0 a).N) (hu : live a t) (ho : ¬ opens (grid0.coords t) (tE a) (tN a))
    (s0 : Vec F S1024x2048 .bf16) (s1 : Vec F S1024x1024 .bf16) (h : holds a V c t.val s0 s1) : s0 = gTile a V c t ∧ s1 = dTile a V c t := by
  rw [opens_iff] at ho
  have hz : t.val ≠ 0 := fun hz => ho ⟨hu, .inl (by rw [coord]; exact hz)⟩
  have hw : wordE (grid0.coords t) (tE a) = wordP (grid0.coords t) (tE a) := by
    by_contra hw; exact ho ⟨hu, .inr hw⟩
  have hlt : t.val - 1 < (cfg0 a).N := by have := t.isLt; omega
  have hs : (⟨t.val - 1, hlt⟩ : Fin (cfg0 a).N).val + 1 = t.val := by show t.val - 1 + 1 = t.val; omega
  rw [wordP_eq a t ⟨t.val - 1, hlt⟩ hs] at hw
  obtain ⟨h0, h1⟩ := h ⟨t.val - 1, hlt⟩ hs (live_before a t _ (by show t.val - 1 ≤ t.val; omega) hu)
  exact ⟨h0.trans (gTile_same a V c t _ hw).symm, h1.trans (dTile_same a V c t _ hw).symm⟩

theorem holds_next (c : Dev nD) (t : Fin (cfg0 a).N) : holds a V c (t.val + 1) (gTile a V c t) (dTile a V c t) := by
  intro t' ht _
  obtain rfl : t' = t := Fin.ext (by omega)
  exact ⟨rfl, rfl⟩

theorem holds_past (c : Dev nD) (t : Fin (cfg0 a).N) (hu : ¬ live a t) (s0 : Vec F S1024x2048 .bf16) (s1 : Vec F S1024x1024 .bf16) :
    holds a V c (t.val + 1) s0 s1 := by
  intro t' ht hl
  obtain rfl : t' = t := Fin.ext (by omega)
  exact absurd hl hu

/-! ## The body at every point -/

abbrev ms0 (t : Fin (cfg0 a).N) : Memref sig .tc .vmem S512x1024 .f32 := spec0_0.stage ((cfg0 a).slots t (0 : Fin 6))
abbrev hs0 (t : Fin (cfg0 a).N) : (ms0 a t).IsWhole := hstage0_0 (((cfg0 a).slots t (0 : Fin 6)).cast nbuf0_0)
abbrev ms1 (t : Fin (cfg0 a).N) : Memref sig .tc .vmem S1x1024x2048 .f32 := spec0_1.stage ((cfg0 a).slots t (1 : Fin 6))
abbrev hs1 (t : Fin (cfg0 a).N) : (ms1 a t).IsWhole := hstage0_1 (((cfg0 a).slots t (1 : Fin 6)).cast nbuf0_1)
abbrev ms2 (t : Fin (cfg0 a).N) : Memref sig .tc .vmem S1x1x2048 .f32 := spec0_2.stage ((cfg0 a).slots t (2 : Fin 6))
abbrev hs2 (t : Fin (cfg0 a).N) : (ms2 a t).IsWhole := hstage0_2 (((cfg0 a).slots t (2 : Fin 6)).cast nbuf0_2)
abbrev ms3 (t : Fin (cfg0 a).N) : Memref sig .tc .vmem S1x1024x1024 .f32 := spec0_3.stage ((cfg0 a).slots t (3 : Fin 6))
abbrev hs3 (t : Fin (cfg0 a).N) : (ms3 a t).IsWhole := hstage0_3 (((cfg0 a).slots t (3 : Fin 6)).cast nbuf0_3)
abbrev ms4 (t : Fin (cfg0 a).N) : Memref sig .tc .vmem S1x1x1024 .f32 := spec0_4.stage ((cfg0 a).slots t (4 : Fin 6))
abbrev hs4 (t : Fin (cfg0 a).N) : (ms4 a t).IsWhole := hstage0_4 (((cfg0 a).slots t (4 : Fin 6)).cast nbuf0_4)
abbrev ms5 (t : Fin (cfg0 a).N) : Memref sig .tc .vmem S512x1024 .f32 := spec0_5.stage ((cfg0 a).slots t (5 : Fin 6))
abbrev hs5 (t : Fin (cfg0 a).N) : (ms5 a t).IsWhole := hstage0_5 (((cfg0 a).slots t (5 : Fin 6)).cast nbuf0_5)

/-- The body at a point on its buffers. -/
abbrev bodyAt (t : Fin (cfg0 a).N) : Prog (TpuEff nD τ sig (Elt F) Λ₀ .tc) PUnit :=
  cc0_moe_experts (grid0.coords t) tbE (Memref.isWhole_whole _) tbN (Memref.isWhole_whole _) (ms0 a t) (hs0 a t) (ms1 a t) (hs1 a t) (ms2 a t) (hs2 a t) (ms3 a t) (hs3 a t) (ms4 a t) (hs4 a t) (ms5 a t) (hs5 a t) scG (Memref.isWhole_whole _) scD (Memref.isWhole_whole _)

/-- What the body finds at a point, -/
def finds (c : Dev nD) (t : Fin (cfg0 a).N) : sProp 𝕄 :=
  iprop((dats a V 0 c).Φ t.castSucc ∗ (dats a V 0 c).owesAt () t.castSucc
    ∗ (∃ d, owns (c : Thread nD τ) (ms0 a t) fullShare ((dats a V 0 c).before (0 : Fin 6) t d))
    ∗ (∃ d, owns (c : Thread nD τ) (ms1 a t) fullShare ((dats a V 0 c).before (1 : Fin 6) t d))
    ∗ (∃ d, owns (c : Thread nD τ) (ms2 a t) fullShare ((dats a V 0 c).before (2 : Fin 6) t d))
    ∗ (∃ d, owns (c : Thread nD τ) (ms3 a t) fullShare ((dats a V 0 c).before (3 : Fin 6) t d))
    ∗ (∃ d, owns (c : Thread nD τ) (ms4 a t) fullShare ((dats a V 0 c).before (4 : Fin 6) t d))
    ∗ (∃ d, owns (c : Thread nD τ) (ms5 a t) fullShare ((dats a V 0 c).before (5 : Fin 6) t d)))

/-- and what it leaves. -/
def leaves (c : Dev nD) (t : Fin (cfg0 a).N) : sProp 𝕄 :=
  iprop((dats a V 0 c).Φ t.succ ∗ (dats a V 0 c).owesAt () t.succ
    ∗ (dats a V 0 c).leavesExact (0 : Fin 6) t
    ∗ (dats a V 0 c).leavesExact (1 : Fin 6) t
    ∗ (dats a V 0 c).leavesExact (2 : Fin 6) t
    ∗ (dats a V 0 c).leavesExact (3 : Fin 6) t
    ∗ (dats a V 0 c).leavesExact (4 : Fin 6) t
    ∗ (dats a V 0 c).leavesExact (5 : Fin 6) t)

theorem leaves_live (c : Dev nD) (w : Fin (cfg0 a).W) (t : Fin (cfg0 a).N) (hi : (cfg0 a).idle w (grid0.coords t) = false) :
    (dats a V 0 c).leavesExact w t
      = owns (c : Thread nD τ) (((cfg0 a).win w).stage ((cfg0 a).slots t w)) fullShare ((dats a V 0 c).after w t) := by
  unfold Dat.leavesExact; rw [hi]

/-- The body always writes its output block. -/
theorem never_idle (i : grid0.Coords) : (cfg0 a).idle (5 : Fin 6) i = false := by
  show (!(k0_cond1 i _ == 1#1) && !(k0_cond3 i _ == 1#1)) = false
  generalize a.1.atD 1 ![0] = w
  by_cases h : k0_cond3 i w = 1#1
  · rw [h]; simp
  · rw [(past_or_used i w).mpr h]; simp

set_option maxHeartbeats 1600000 in
theorem body_sound (c : Dev nD) (t : Fin (cfg0 a).N) :
    finds a V c t ⊢ wp frame (wpE (defs₀ (F := F)) Variants.none c none) Set.univ (bodyAt a t) (fun _ => leaves a V c t) := by
  unfold finds leaves bodyAt
  simp only [before_0, before_1, before_2, before_3, before_4]
  rw [show (dats a V 0 c).owesAt () t.succ = (dats a V 0 c).owesAt () t.castSucc from rfl,
    show (dats a V 0 c).Φ t.succ = between a V c (t.val + 1) from rfl,
    show (dats a V 0 c).Φ t.castSucc = between a V c t.val from rfl,
    leaves_live a V c (0 : Fin 6) t rfl, leaves_live a V c (1 : Fin 6) t rfl, leaves_live a V c (2 : Fin 6) t rfl, leaves_live a V c (3 : Fin 6) t rfl,
    leaves_live a V c (4 : Fin 6) t rfl, leaves_live a V c (5 : Fin 6) t (never_idle a _), after_0, after_1, after_2, after_3, after_4, after_5]
  unfold between
  iintro ⟨⟨⟨%s0, %s1, %hs, HS0, HS1⟩, Hg, HT0, HT1⟩, Ho, ⟨%d0, H0⟩, ⟨%d1, H1⟩, ⟨%d2, H2⟩, ⟨%d3, H3⟩, ⟨%d4, H4⟩, ⟨%d5, H5⟩⟩
  by_cases hu : live a t
  · have hp : ¬ past (grid0.coords t) (tN a) := fun h => (past_or_used _ _).mp h hu
    by_cases ho : opens (grid0.coords t) (tE a) (tN a)
    · iapply (run_open c (grid0.coords t) _ _ _ _ _ _ _ _ _ _ _ _ (tE a) (tN a) hp ho hu (iblk a V c 0 t) (iblk a V c 1 t) (iblk a V c 2 t) (iblk a V c 3 t) (iblk a V c 4 t) s0 s1 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 Hg HT0 HT1]
      · isplitl [HS0 HS1]
        · iexists _; iexists _; isplitr
          · ipureintro; exact holds_next a V c t
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      rw [oTile, if_pos hu]
      iexact H5
    · obtain ⟨rfl, rfl⟩ := holds_same a V c t hu ho s0 s1 hs
      iapply (run_same c (grid0.coords t) _ _ _ _ _ _ _ _ _ _ _ _ (tE a) (tN a) hp ho hu (iblk a V c 0 t) (iblk a V c 1 t) (iblk a V c 2 t) (iblk a V c 3 t) (iblk a V c 4 t) (gTile a V c t) (dTile a V c t) Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 Hg HT0 HT1]
      · isplitl [HS0 HS1]
        · iexists _; iexists _; isplitr
          · ipureintro; exact holds_next a V c t
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      rw [oTile, if_pos hu]
      iexact H5
  · have hp : past (grid0.coords t) (tN a) := (past_or_used _ _).mpr hu
    have ho : ¬ opens (grid0.coords t) (tE a) (tN a) := fun h => hu ((opens_iff _ _ _).mp h).1
    iapply (run_past c (grid0.coords t) _ _ _ _ _ _ _ _ _ _ _ _ (tE a) (tN a) hp ho hu (iblk a V c 0 t) (iblk a V c 1 t) (iblk a V c 2 t) (iblk a V c 3 t) (iblk a V c 4 t) s0 s1 Set.univ _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, H5, HS0, HS1⟩
    isplitl [HS0 HS1 Hg HT0 HT1]
    · isplitl [HS0 HS1]
      · iexists _; iexists _; isplitr
        · ipureintro; exact holds_past a V c t hu s0 s1
        isplitl [HS0]; · iexact HS0
        iexact HS1
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    rw [oTile, if_neg hu]
    iexact H5

theorem body_row (t : Fin (cfg0 a).N) :
    defs₀ (F := F) .tc (cfg0 a).body ((cfg0 a).bodyArgs t ((cfg0 a).slots t)) = bodyAt a t := by
  unfold defs₀; rw [Defs.onTc_tc]

theorem body_all (c : Dev nD) : BodyObligation (dats a V 0 c) (defs₀ (F := F)) Variants.none () Set.univ := fun t => by
  rw [bigSep_W0, bigSep_W0, body_row]
  exact triple_restated (body_sound a V c t) rfl .rfl fun _ => .rfl

end Cert.Exp

end
-- ==== Proof.ExpTables.lean ====
/- The experts' two tables, from the counts: where each expert's rows end once every expert's rows are padded to whole
   blocks, how many ends lie at or before a block's first row (the block's expert, at most 31), and how many blocks are
   in use. -/
module

public import proofs.«01_k».proof.Proof.ExpBody
public import Idealize.ShloMosaic.Lib.StableHlo.Run

@[expose] public section

set_option maxRecDepth 16384

noncomputable section

namespace Cert.Exp

open Cert.KExpIdeal Cert.KExpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A word of every one of 32 experts, or of every one of 288 blocks. -/
abbrev all32 (n : BitVec 32) : IVec S32 32 := broadcastInDim S32 ![] bcast_S_S32 (constantI S_ 32 n)
abbrev all288 (n : BitVec 32) : IVec S288 32 := broadcastInDim S288 ![] bcast_S_S288 (constantI S_ 32 n)

/-- Each expert's rows, as the counts say, raised by 511. -/
def raised (cnt : FVec F S8x128 .f32) : IVec S32 32 :=
  subi (addi (fptosi 32 (shapeCast S32 (extractStridedSlice S1x32 ![0, 0] cnt slices_S8x128_S1x32_0_0) shapeCasts_S1x32_S32)) (all32 512#32)) (all32 1#32)

/-- Division by 512, rounded down: the quotient rounded towards zero, less one where the signs differ and it is not exact. -/
def blocks32 (x : IVec S32 32) : IVec S32 32 :=
  select (andi (cmpi .ne (signi x) (broadcastInDim S32 ![] bcast_S_S32 (signi (constantI S_ 32 512#32))))
      (cmpi .ne (Host.remsi x (all32 512#32)) (all32 0#32)))
    (subi (Host.divsi x (all32 512#32)) (all32 1#32)) (Host.divsi x (all32 512#32))
def blocks1 (x : IVec S1 32) : IVec S1 32 :=
  select (andi (cmpi .ne (signi x) (broadcastInDim S1 ![] bcast_S_S1 (signi (constantI S_ 32 512#32))))
      (cmpi .ne (Host.remsi x (broadcastInDim S1 ![] bcast_S_S1 (constantI S_ 32 512#32))) (broadcastInDim S1 ![] bcast_S_S1 (constantI S_ 32 0#32))))
    (subi (Host.divsi x (broadcastInDim S1 ![] bcast_S_S1 (constantI S_ 32 512#32))) (broadcastInDim S1 ![] bcast_S_S1 (constantI S_ 32 1#32)))
    (Host.divsi x (broadcastInDim S1 ![] bcast_S_S1 (constantI S_ 32 512#32)))

/-- Where each expert's padded rows end. -/
def ends (cnt : FVec F S8x128 .f32) : IVec S32 32 :=
  Host.reduceWindow IntOp.addi ![32] ![1] ![31] ![0] (muli (blocks32 (raised cnt)) (all32 512#32))
    (broadcastInDim S_ ![] bcast_S_S_ (constantI S_ 32 0#32)) reduceWindows_S32_S32_w32s1p31_0 h_S_

/-- Each block's expert: how many ends lie at or before its first row, at most 31. -/
def ended (e : IVec S32 32) : IVec S288x32 32 :=
  extui 32 (cmpi .sle (broadcastInDim S288x32 ![0, 1] bcast_S1x32_S288x32_0_1 (broadcastInDim S1x32 ![1] bcast_S32_S1x32_1 e))
    (broadcastInDim S288x32 ![0, 1] bcast_S288x1_S288x32_0_1 (broadcastInDim S288x1 ![0] bcast_S288_S288x1_0
      (muli (iotaInDim S288 32 0) (all288 512#32))))) natLt_1_32
def expertOf (e : IVec S32 32) : IVec S288 32 :=
  minsi (Host.reduce IntOp.addi (ended e) (constantI S_ 32 0#32) reducesTo_S288x32_S288_d1 h_S_) (all288 31#32)

/-- How many blocks are in use. -/
def inUse (e : IVec S32 32) : IVec S1 32 := blocks1 (extractStridedSlice S1 ![31] e slices_S32_S1_31)

/-! ## A block's expert is one of the 32 -/

theorem fold_le {ι : Type} (g : ι → BitVec 32) (hg : ∀ n, (g n).toNat ≤ 1) : ∀ (l : List ι) (z : BitVec 32),
    (l.foldl (fun r n => IntOp.addi r (g n)) z).toNat ≤ z.toNat + l.length
  | [], _ => le_refl _
  | n :: l, z => by
    refine (fold_le g hg l (IntOp.addi z (g n))).trans ?_
    have h1 : (IntOp.addi z (g n)).toNat ≤ z.toNat + (g n).toNat := by
      show (z + g n).toNat ≤ _
      rw [BitVec.toNat_add]; exact Nat.mod_le _ _
    have h2 := hg n
    rw [List.length_cons]; omega

theorem ended_le (e : IVec S32 32) (i : S288x32.Idx) : (ended e i).toNat ≤ 1 := by
  show (BitVec.setWidth 32 (_ : BitVec 1)).toNat ≤ 1
  rw [BitVec.toNat_setWidth]
  exact (Nat.mod_le _ _).trans (Nat.lt_succ_iff.mp (BitVec.isLt _))

theorem capped (x : BitVec 32) (h : x.toNat ≤ 9216) : (IntOp.minsi x 31#32).toNat ≤ 31 := by
  show (if x.slt 31#32 then x else 31#32).toNat ≤ 31
  split
  · rename_i hs
    rw [BitVec.slt, BitVec.toInt_eq_toNat_of_lt (by omega)] at hs
    have := of_decide_eq_true hs
    have h31 : (31#32 : BitVec 32).toInt = 31 := by decide
    omega
  · decide

theorem expertOf_le (e : IVec S32 32) (i : S288.Idx) : (expertOf e i).toNat ≤ 31 := by
  refine capped _ ?_
  unfold Host.reduce
  refine (fold_le _ (fun n => ended_le e _) _ _).trans ?_
  refine (Nat.add_le_add_left (List.length_filter_le _ _) _).trans ?_
  rw [List.length_finRange]
  show 0 + S288x32.numel ≤ 9216
  decide

/-! ## What the host leaves in the tables -/

variable (m : (ℓ : Loc nD τ sig) → Buf (Elt F) ℓ)

/-- The host's operations before the region, stretch by stretch. -/
abbrev stretches : List (List (HloOp τ sig (Elt F))) :=
  [hostOps0, hostOps0_1, hostOps0_2, hostOps0_3, hostOps0_4, hostOps0_5, hostOps0_6]

/-- What the region finds. -/
def V (c : Dev nD) (b : Ref sig .tc) : Buf (Elt F) ((c.tc : Thread nD τ).loc b) :=
  StableHlo.after (stretches (F := F)).flatten (fun b => m (c, b)) b

theorem table_E (c : Dev nD) : V m c main_v22 = expertOf (ends (m ((c.tc : Thread nD τ).loc main_arg0))) := by
  dsimp only [V, stretches]
  simp only [List.flatten_cons, List.flatten_nil, List.append_nil, hostOps0, hostOps0_1, hostOps0_2, hostOps0_3, hostOps0_4, hostOps0_5, hostOps0_6, List.cons_append, List.nil_append]
  after_results_simp
  simp only [StableHlo.TRef.toBuf, StableHlo.TRef.ofBuf, cast_cast, cast_eq]
  unfold expertOf ended ends blocks32 raised all32 all288
  rfl

theorem table_N (c : Dev nD) : V m c main_v24 = inUse (ends (m ((c.tc : Thread nD τ).loc main_arg0))) := by
  dsimp only [V, stretches]
  simp only [List.flatten_cons, List.flatten_nil, List.append_nil, hostOps0, hostOps0_1, hostOps0_2, hostOps0_3, hostOps0_4, hostOps0_5, hostOps0_6, List.cons_append, List.nil_append]
  after_results_simp
  simp only [StableHlo.TRef.toBuf, StableHlo.TRef.ofBuf, cast_cast, cast_eq]
  unfold inUse blocks1 ends blocks32 raised all32
  rfl

end Cert.Exp

end
-- ==== Proof.ExpFrame.lean ====
/- The experts' whole program: the tables the host makes are admissible (every block's expert is one of the 32), so every
   run of the program ends with the result array at what the pipeline's data say, the arguments as they were and every
   counter at zero. -/
module

public import proofs.«01_k».proof.Proof.ExpTables

@[expose] public section

set_option maxRecDepth 16384

noncomputable section

namespace Cert.Exp

open Cert.KExpIdeal Cert.KExpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem inb_1 (pf : pre0.Contents (Elt F)) (h : ∀ i, (pf 0 i : BitVec 32).toNat ≤ 31) (i : grid0.Coords) :
    ∀ k, (cc0_transform_1 k0_off1_inb numel1_S1 pf i k + 1) * S1x1024x2048.size k ≤ S32x1024x2048.size k := by
  intro k
  fin_cases k
  · exact (Nat.mul_one _).trans_le (Nat.succ_le_succ (h _))
  · show (0 + 1) * _ ≤ _
    decide
  · show (0 + 1) * _ ≤ _
    decide
theorem inb_2 (pf : pre0.Contents (Elt F)) (h : ∀ i, (pf 0 i : BitVec 32).toNat ≤ 31) (i : grid0.Coords) :
    ∀ k, (cc0_transform_2 k0_off1_inb numel1_S1 pf i k + 1) * S1x1x2048.size k ≤ S32x1x2048.size k := by
  intro k
  fin_cases k
  · exact (Nat.mul_one _).trans_le (Nat.succ_le_succ (h _))
  · show (0 + 1) * _ ≤ _
    decide
  · show (0 + 1) * _ ≤ _
    decide
theorem inb_3 (pf : pre0.Contents (Elt F)) (h : ∀ i, (pf 0 i : BitVec 32).toNat ≤ 31) (i : grid0.Coords) :
    ∀ k, (cc0_transform_3 k0_off1_inb numel1_S1 pf i k + 1) * S1x1024x1024.size k ≤ S32x1024x1024.size k := by
  intro k
  fin_cases k
  · exact (Nat.mul_one _).trans_le (Nat.succ_le_succ (h _))
  · show (0 + 1) * _ ≤ _
    decide
  · show (0 + 1) * _ ≤ _
    decide
theorem inb_4 (pf : pre0.Contents (Elt F)) (h : ∀ i, (pf 0 i : BitVec 32).toNat ≤ 31) (i : grid0.Coords) :
    ∀ k, (cc0_transform_4 k0_off1_inb numel1_S1 pf i k + 1) * S1x1x1024.size k ≤ S32x1x1024.size k := by
  intro k
  fin_cases k
  · exact (Nat.mul_one _).trans_le (Nat.succ_le_succ (h _))
  · show (0 + 1) * _ ≤ _
    decide
  · show (0 + 1) * _ ≤ _
    decide

variable (m : (ℓ : Loc nD τ sig) → Buf (Elt F) ℓ) (ρ : Dev nD → PrngReg)

/-- The tables' contents as the region finds them. -/
def tables : pre0.Contents (Elt F) := fun k => V m 0 (pre0.ref k)

theorem tables_le (i : S288.Idx) : (tables m 0 i : BitVec 32).toNat ≤ 31 := by
  show (V m 0 main_v22 i : BitVec 32).toNat ≤ 31
  rw [table_E]
  exact expertOf_le _ i

/-- They are admissible. -/
def adm : (pcfg0 (F := F)).Adm :=
  ⟨tables m, ⟨fun i => ⟨inb_1 _ (tables_le m) i, .inl rfl⟩, fun i => ⟨inb_2 _ (tables_le m) i, .inl rfl⟩,
    fun i => ⟨inb_3 _ (tables_le m) i, .inl rfl⟩, fun i => ⟨inb_4 _ (tables_le m) i, .inl rfl⟩⟩⟩

theorem host_run : Pipeline.HMainP (Ix := Unit) (Name := ℕ) (U := UR sig nD τ) (Lvl := ℕ) (pcfgs (F := F)) 0 defs₀ Variants.none m main (V m) :=
  Pipeline.hmainP_prefixes _ _ _ _ m main stretches
    ⟨hostOps0_sub, hostOps0_1_sub, hostOps0_2_sub, hostOps0_3_sub, hostOps0_4_sub, hostOps0_5_sub, hostOps0_6_sub⟩
    (by simp only [List.Forall]; repeat' constructor)
    main_chain

set_option backward.isDefEq.respectTransparency.types false in
/-- Every run ends with the result array at what the data say, everything else as the region found it, and all counters at
    zero. -/
theorem run_all : θ_run defs (onTc (τ := τ) (main (F := F))) (s₀ m ρ)
    (fun r => (Pipeline.FramePost (Pipeline.pin pcfgs fun _ => adm m) (dats (adm m) (V m)) 0 (V m)) r ∧ r.2.sem = fun _ => 0) :=
  Pipeline.θ_run_frameP_track (Q' := _) pcfgs (fun _ => adm m) (dats (adm m) (V m)) (0 : Fin 1) launch0 defs₀ Variants.none m ρ main
    (hbody := fun c => (body_all (adm m) (V m) c).loose) (hshare := fun c => (dats (adm m) (V m) 0 c).share_full fun _ => rfl)
    (howed := fun _ _ => rfl) (V := V m) (hmain := host_run m) (hA := fun c w => by dsimp only [dats])
    (hpf := fun c k => by rw [Subsingleton.elim c 0]; rfl)
    (hin := fun c => between_start (adm m) (V m) c)
    (hout := fun c => between_end (adm m) (V m) c _)

/-- The host writes no argument. -/
theorem kept_arg (c : Dev nD) (b : Ref sig .tc) (hb : b = main_arg0 ∨ b = main_arg1 ∨ b = main_arg2 ∨ b = main_arg3 ∨ b = main_arg4 ∨ b = main_arg5) :
    V m c b = m ((c.tc : Thread nD τ).loc b) := by
  rcases hb with rfl | rfl | rfl | rfl | rfl | rfl <;>
  · dsimp only [V, stretches]
    simp only [List.flatten_cons, List.flatten_nil, List.append_nil, hostOps0, hostOps0_1, hostOps0_2, hostOps0_3, hostOps0_4, hostOps0_5, hostOps0_6, List.cons_append, List.nil_append]
    after_results_simp

/-- The arguments end as they began. -/
theorem args_kept (r : PUnit × MemSt nD τ sig (Elt F))
    (h : Pipeline.FramePost (Pipeline.pin pcfgs fun _ => adm m) (dats (adm m) (V m)) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have rest : ∀ b, b ∈ Pipeline.restRefs sig spec0 → b ∈ Pipeline.restRefs sig (Pipeline.pin (pcfgs (F := F)) (fun _ => adm m) 0).spec := fun _ hb => hb
  refine ⟨((h c).2 main_arg0 (rest _ (by decide))).trans (kept_arg m c _ (by simp)), ?_,
    ((h c).2 main_arg2 (rest _ (by decide))).trans (kept_arg m c _ (by simp)), ((h c).2 main_arg3 (rest _ (by decide))).trans (kept_arg m c _ (by simp)),
    ((h c).2 main_arg4 (rest _ (by decide))).trans (kept_arg m c _ (by simp)), ((h c).2 main_arg5 (rest _ (by decide))).trans (kept_arg m c _ (by simp))⟩
  exact (((h c).1 (0 : Fin 6)).trans ((dats (adm m) (V m) 0 c).arrAt_in (0 : Fin 6) rfl _)).trans (kept_arg m c main_arg1 (by simp))

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m r h.1 c, h.2⟩) (run_all m ρ)

end Cert.Exp

end
-- ==== Proof.ExpText.lean ====
/- The experts' kernel has one text at both instances, so one run gives both frames. -/
module

public import proofs.«01_k».proof.Defs
public import proofs.«01_k».proof.Proof.ExpFrame
public import proofs.«01_k».proof.Proof.Gen.KExp
public import proofs.«01_k».proof.Proof.Gen.KExpIdeal
public import Idealize.ShloMosaic.Lib.Quiescent

@[expose] public section

set_option maxRecDepth 65536

noncomputable section

namespace Cert.Proof

open Idealize.ShloMosaic Idealize.ShloMosaic.TcCoe Idealize.SL.Sem

/-! ## The frames: both kernel programs have one text -/

theorem exp_body_text {F : FTy → Type} [FloatOps F] : Cert.KExp.defs₀ (F := F) = Cert.KExpIdeal.defs₀ (F := F) := by
  unfold Cert.KExp.defs₀ Cert.KExpIdeal.defs₀
  refine congrArg Defs.onTc ?_
  funext l a
  fin_cases l
  rfl

theorem exp_pipelines {F : FTy → Type} [FloatOps F] : Cert.KExp.pcfgs (F := F) = Cert.KExpIdeal.pcfgs (F := F) := rfl

theorem exp_defs_text {F : FTy → Type} [FloatOps F] : Cert.KExp.defs (F := F) = Cert.KExpIdeal.defs (F := F) :=
  congrArg (Pipeline.defs Cert.KExp.pcfgs) exp_body_text

set_option maxHeartbeats 2000000 in
theorem exp_main_text {F : FTy → Type} [FloatOps F] : Cert.KExp.main (F := F) = Cert.KExpIdeal.main (F := F) := by
  unfold Cert.KExp.main Cert.KExpIdeal.main
  rfl

theorem quiescent_KExp : quiescent_KExp := fun m ρ _ => by
  rw [exp_defs_text, exp_main_text]
  exact Cert.Exp.frame_all (F := Bits) m ρ

theorem quiescent_KExpIdeal : quiescent_KExpIdeal := fun m ρ _ => Cert.Exp.frame_all (F := Ideal) m ρ

end Cert.Proof

end
-- ==== Proof.ExpRow.lean ====
/- One row through one expert: the value both programs compute, and what the kernel's tile holds of it. -/
module

public import proofs.«01_k».proof.Proof.ExpFrame
public import proofs.«01_k».proof.Proof.Rows

@[expose] public section

set_option maxRecDepth 16384

noncomputable section

namespace Cert.Exp

open Idealize.ShloMosaic Idealize.ShloMosaic.TcCoe Idealize.SL.Sem Idealize.ShloMosaic.Tactic
open Cert.KExpIdeal Cert.KExpIdeal.Gen Cert.Rows

/-- The clamp, its negative, and the sigmoid's slope, as both programs print them. -/
def cHi : EReal := Ideal.ofBits .f32 0x40E00000#32
def cLo : EReal := Ideal.ofBits .f32 0xC0E00000#32
def cSlope : EReal := Ideal.ofBits .f32 0x3FD9DB23#32

/-- The gated unit of a row of 1024 gates and 1024 ups. -/
def unit (g : Fin 2048 → EReal) (j : Fin 1024) : EReal :=
  (min cHi (max cLo (g ⟨1024 + j.val, by omega⟩)) + 1)
    * (min (g ⟨j.val, by omega⟩) cHi * gate (cSlope * min (g ⟨j.val, by omega⟩) cHi))

/-- A row through an expert. -/
def expert (x : Fin 1024 → EReal) (w : Fin 1024 → Fin 2048 → EReal) (b : Fin 2048 → EReal) (v : Fin 1024 → Fin 1024 → EReal)
    (d : Fin 1024 → EReal) (j : Fin 1024) : EReal :=
  rowMul (unit fun e => rowMul x w e + b e) v j + d j

theorem pay4_at (x : Vec Ideal S512x1024 .f32) (w : Vec Ideal S1024x2048 .bf16) (b : Vec Ideal S1x1x2048 .f32)
    (v : Vec Ideal S1024x1024 .bf16) (d : Vec Ideal S1x1x1024 .f32) (r : Fin 512) (j : Fin 1024) :
    (k0_pay4 x w b v d (ix2 r j) : EReal) = expert (fun k => x (ix2 r k)) (fun k e => w (ix2 k e)) (fun e => b (ix3 0 0 e))
      (fun k j => v (ix2 k j)) (fun j => d (ix3 0 0 j)) j := by
  pointwise [k0_pay4]
  rfl

theorem pay2_at (w : Vec Ideal S1x1024x2048 .f32) (k : Fin 1024) (e : Fin 2048) : (k0_pay2 w (ix2 k e) : EReal) = w (ix3 0 k e) := by
  pointwise [k0_pay2]

theorem pay3_at (w : Vec Ideal S1x1024x1024 .f32) (k j : Fin 1024) : (k0_pay3 w (ix2 k j) : EReal) = w (ix3 0 k j) := by
  pointwise [k0_pay3]

theorem pay1_at (r : Fin 512) (j : Fin 1024) : (k0_pay1 (F := Ideal) (ix2 r j) : EReal) = 0 := by
  pointwise [k0_pay1]

end Cert.Exp

end
-- ==== Proof.ExpValue.lean ====
/- The experts' result, read off the arguments: the blocks a point reads, and the array the points leave. -/
module

public import proofs.«01_k».proof.Proof.ExpRow
public import Idealize.ShloMosaic.Lib.Pipeline.Covers

@[expose] public section

set_option maxRecDepth 16384

noncomputable section

namespace Cert.Exp

open Idealize.ShloMosaic Idealize.ShloMosaic.TcCoe Idealize.SL.Sem Idealize.ShloMosaic.Tactic
open Cert.KExpIdeal Cert.KExpIdeal.Gen Cert.Rows

section Reads
variable {F : FTy → Type} [FloatOps F]
variable (a : (pcfg0 (F := F)).Adm) (V : (c : Dev nD) → (b : Ref sig .tc) → Buf (Elt F) ((c.tc : Thread nD τ).loc b)) (c : Dev nD)
  (t : Fin (cfg0 a).N)

/-! ## A window's block, as its place in the array -/

theorem row_word : (BitVec.ofNat 32 (grid0.coords t 0).val).toNat = t.val := by
  have := points a t
  rw [coord a t, BitVec.toNat_ofNat, Nat.mod_eq_of_lt (by omega)]
theorem index_X : ((cfg0 a).win 0).index t = ![t.val, 0] := by
  show ![(BitVec.ofNat 32 (grid0.coords t 0).val).toNat, 0] = _
  rw [row_word]
theorem index_O : ((cfg0 a).win 5).index t = ![t.val, 0] := by
  show ![(BitVec.ofNat 32 (grid0.coords t 0).val).toNat, 0] = _
  rw [row_word]
theorem index_Gb : ((cfg0 a).win 2).index t = ![(wordE (grid0.coords t) (tE a) : BitVec 32).toNat, 0, 0] := rfl
theorem index_Db : ((cfg0 a).win 4).index t = ![(wordE (grid0.coords t) (tE a) : BitVec 32).toNat, 0, 0] := rfl

theorem read_0 (r : Fin 512) (k : Fin 1024) :
    iblk a V c 0 t (ix2 r k) = V c main_arg1 (ix2 (⟨t.val * 512 + r.val, by have := points a t; omega⟩ : Fin 147456) k) := by
  blk_ext! [iblk, index_X a t]
theorem read_1 (e : Fin 32) (k : Fin 1024) (j : Fin 2048) (h : ((cfg0 a).win 1).index t = ![e.val, 0, 0]) :
    iblk a V c 1 t (ix3 0 k j) = V c main_v25 (ix3 e k j) := by
  blk_ext! [iblk, h]
theorem read_2 (e : Fin 32) (j : Fin 2048) (h : ((cfg0 a).win 2).index t = ![e.val, 0, 0]) :
    iblk a V c 2 t (ix3 0 0 j) = V c main_v27 (ix3 e 0 j) := by
  blk_ext! [iblk, h]
theorem read_3 (e : Fin 32) (k j : Fin 1024) (h : ((cfg0 a).win 3).index t = ![e.val, 0, 0]) :
    iblk a V c 3 t (ix3 0 k j) = V c main_v28 (ix3 e k j) := by
  blk_ext! [iblk, h]
theorem read_4 (e : Fin 32) (j : Fin 1024) (h : ((cfg0 a).win 4).index t = ![e.val, 0, 0]) :
    iblk a V c 4 t (ix3 0 0 j) = V c main_v30 (ix3 e 0 j) := by
  blk_ext! [iblk, h]

/-- Every block of the result is written back at some point. -/
theorem covers_5 : ((cfg0 a).win 5).Covers := by
  refine ⟨fun (b : Fin 2) => ?_, fun β => ?_⟩
  · fin_cases b
    · show 0 < 512; decide
    · show 0 < 1024; decide
  have h0 : (β (0 : Fin 2)).val < 288 := (β (0 : Fin 2)).isLt.trans_eq (show (147456 + 512 - 1) / 512 = 288 by decide)
  have h1 : (β (1 : Fin 2)).val < 1 := (β (1 : Fin 2)).isLt.trans_eq (show (1024 + 1024 - 1) / 1024 = 1 by decide)
  obtain ⟨t, -, hf, ht⟩ := ((cfg0 a).win 5).exists_flush_same_index rfl (⟨(β (0 : Fin 2)).val, h0.trans_eq N_0.symm⟩ : Fin grid0.N)
  refine ⟨t, hf, fun b => ⟨?_, .inl rfl⟩⟩
  rw [ht, index_O a ⟨(β (0 : Fin 2)).val, h0.trans_eq N_0.symm⟩]
  revert b
  refine fun (b : Fin 2) => ?_
  fin_cases b
  · rfl
  · show 0 = (β (1 : Fin 2)).val; omega

/-- An array's value, from every tile's place in it. -/
theorem arr_of_tiles (G : S147456x1024.Idx → Elt F .f32)
    (h : ∀ (t : Fin (cfg0 a).N) (r : Fin 512) (j : Fin 1024), oTile a V c t (ix2 r j)
      = G (ix2 (⟨t.val * 512 + r.val, by have := points a t; omega⟩ : Fin 147456) j)) :
    (dats a V 0 c).arrAt (5 : Fin 6) (cfg0 a).N = G := by
  refine (dats a V 0 c).arrAt_eq_of_covers (5 : Fin 6) _ (covers_5 a) fun t hf (y : S512x1024.Idx) => ?_
  obtain ⟨r, j, rfl⟩ : ∃ (r : Fin 512) (j : Fin 1024), y = ix2 r j := ⟨y 0, y 1, by funext a; fin_cases a <;> rfl⟩
  refine Eq.trans (b := oTile a V c t (ix2 r j)) (by rw [after_5]; rfl) ((h t r j).trans ?_)
  have i0 := congrFun (index_O a t) (0 : Fin 2)
  have i1 := congrFun (index_O a t) (1 : Fin 2)
  refine congrArg G (funext fun (b : Fin 2) => Fin.ext ?_)
  refine Eq.trans ?_ (((cfg0 a).win 5).rect_emb_val t (ix2 r j) b).symm
  fin_cases b
  · exact (congrArg (· * 512 + r.val) i0).symm
  · exact ((congrArg (· * 1024 + j.val) i1).trans (Nat.zero_add _ |> (congrArg (· + j.val) (Nat.zero_mul 1024)).trans)).symm

end Reads

variable (m : (ℓ : Loc nD τ sig) → Buf (Elt Ideal) ℓ) (c : Dev nD)

/-- The arguments: the counts, the rows, and every expert's matrices and biases. -/
abbrev kCnt : FVec Ideal S8x128 .f32 := m ((c : Thread nD τ).loc main_arg0)
abbrev kX (R : Fin 147456) (k : Fin 1024) : EReal := m ((c : Thread nD τ).loc main_arg1) (ix2 R k)
abbrev kG (e : Fin 32) (k : Fin 1024) (j : Fin 2048) : EReal := m ((c : Thread nD τ).loc main_arg2) (ix4 0 e k j)
abbrev kGb (e : Fin 32) (j : Fin 2048) : EReal := m ((c : Thread nD τ).loc main_arg3) (ix3 0 e j)
abbrev kD (e : Fin 32) (k j : Fin 1024) : EReal := m ((c : Thread nD τ).loc main_arg4) (ix4 0 e k j)
abbrev kDb (e : Fin 32) (j : Fin 1024) : EReal := m ((c : Thread nD τ).loc main_arg5) (ix3 0 e j)

/-- A block's expert among the 32. -/
def exOf (cnt : FVec Ideal S8x128 .f32) (n : Fin 288) : Fin 32 :=
  ⟨(expertOf (ends cnt) (ix1 n) : BitVec 32).toNat, Nat.lt_succ_of_le (expertOf_le _ _)⟩

/-- Whether a block is in use. -/
def inUseAt (cnt : FVec Ideal S8x128 .f32) (n : Fin 288) : Prop := (n.val : ℤ) < (inUse (ends cnt) (ix1 0) : BitVec 32).toInt

open Classical in
/-- The rows through their experts, zero in the blocks not in use. -/
def rowOut (cnt : FVec Ideal S8x128 .f32) (x : Fin 147456 → Fin 1024 → EReal) (w : Fin 32 → Fin 1024 → Fin 2048 → EReal)
    (b : Fin 32 → Fin 2048 → EReal) (v : Fin 32 → Fin 1024 → Fin 1024 → EReal) (d : Fin 32 → Fin 1024 → EReal)
    (n : Fin 288) (r : Fin 512) (j : Fin 1024) : EReal :=
  if inUseAt cnt n then expert (x ⟨n.val * 512 + r.val, by omega⟩) (w (exOf cnt n)) (b (exOf cnt n)) (v (exOf cnt n)) (d (exOf cnt n)) j
  else 0

/-! ## What the host leaves in the windows' arrays -/

theorem host_25 (e : Fin 32) (k : Fin 1024) (j : Fin 2048) : (V m c main_v25 (ix3 e k j) : EReal) = kG m c e k j := by
  dsimp only [V, stretches]
  simp only [List.flatten_cons, List.flatten_nil, List.append_nil, hostOps0, hostOps0_1, hostOps0_2, hostOps0_3, hostOps0_4, hostOps0_5, hostOps0_6, List.cons_append, List.nil_append]
  after_results_simp
  pointwise []
theorem host_27 (e : Fin 32) (j : Fin 2048) : (V m c main_v27 (ix3 e 0 j) : EReal) = kGb m c e j := by
  dsimp only [V, stretches]
  simp only [List.flatten_cons, List.flatten_nil, List.append_nil, hostOps0, hostOps0_1, hostOps0_2, hostOps0_3, hostOps0_4, hostOps0_5, hostOps0_6, List.cons_append, List.nil_append]
  after_results_simp
  pointwise []
theorem host_28 (e : Fin 32) (k j : Fin 1024) : (V m c main_v28 (ix3 e k j) : EReal) = kD m c e k j := by
  dsimp only [V, stretches]
  simp only [List.flatten_cons, List.flatten_nil, List.append_nil, hostOps0, hostOps0_1, hostOps0_2, hostOps0_3, hostOps0_4, hostOps0_5, hostOps0_6, List.cons_append, List.nil_append]
  after_results_simp
  pointwise []
theorem host_30 (e : Fin 32) (j : Fin 1024) : (V m c main_v30 (ix3 e 0 j) : EReal) = kDb m c e j := by
  dsimp only [V, stretches]
  simp only [List.flatten_cons, List.flatten_nil, List.append_nil, hostOps0, hostOps0_1, hostOps0_2, hostOps0_3, hostOps0_4, hostOps0_5, hostOps0_6, List.cons_append, List.nil_append]
  after_results_simp
  pointwise []

/-! ## The words the points read -/

variable (t : Fin (cfg0 (adm m)).N)

/-- A point, as a block. -/
abbrev nOf : Fin 288 := ⟨t.val, points (adm m) t⟩

theorem off_at : k0_off2 (grid0.coords t) 0 = t.val := by
  have := points (adm m) t
  show (BitVec.ofNat 32 (grid0.coords t 0).val).toNat = t.val
  rw [coord (adm m) t, BitVec.toNat_ofNat]
  exact Nat.mod_eq_of_lt (by omega)

theorem word_E : (wordE (grid0.coords t) (tE (adm m)) : BitVec 32).toNat = (exOf (kCnt m 0) (nOf m t)).val := by
  show ((V m 0 main_v22) _ : BitVec 32).toNat = _
  rw [table_E]
  refine congrArg (fun i => (expertOf (ends (kCnt m 0)) i : BitVec 32).toNat) ?_
  funext a
  obtain rfl : a = (0 : Fin 1) := Subsingleton.elim (α := Fin 1) _ _
  refine Fin.ext ?_
  show k0_off2 (grid0.coords t) 0 + 1 * 0 = t.val
  rw [off_at]; omega

theorem live_at : live (adm m) t ↔ inUseAt (kCnt m 0) (nOf m t) := by
  rw [live_iff]
  unfold inUseAt
  refine iff_of_eq (congrArg (fun z : BitVec 32 => (t.val : ℤ) < z.toInt) ?_)
  show (V m 0 main_v24) _ = _
  rw [table_N]
  refine congrArg (inUse (ends (kCnt m 0))) ?_
  funext a
  obtain rfl : a = (0 : Fin 1) := Subsingleton.elim (α := Fin 1) _ _
  rfl

/-! ## The blocks -/

theorem word_index : ![(wordE (grid0.coords t) (tE (adm m)) : BitVec 32).toNat, 0, 0] = ![(exOf (kCnt m 0) (nOf m t)).val, 0, 0] := by
  rw [word_E]

theorem block_0_at (r : Fin 512) (k : Fin 1024) : (iblk (adm m) (V m) c 0 t (ix2 r k) : EReal)
    = kX m c ⟨t.val * 512 + r.val, by have := points (adm m) t; omega⟩ k :=
  (read_0 (adm m) (V m) c t r k).trans (congrFun (kept_arg m c main_arg1 (by simp)) _)
theorem block_1_at (k : Fin 1024) (j : Fin 2048) : (iblk (adm m) (V m) c 1 t (ix3 0 k j) : EReal)
    = kG m c (exOf (kCnt m 0) (nOf m t)) k j :=
  (read_1 (adm m) (V m) c t _ k j ((index_G (adm m) t).trans (word_index m t))).trans (host_25 m c _ k j)
theorem block_2_at (j : Fin 2048) : (iblk (adm m) (V m) c 2 t (ix3 0 0 j) : EReal)
    = kGb m c (exOf (kCnt m 0) (nOf m t)) j :=
  (read_2 (adm m) (V m) c t _ j ((index_Gb (adm m) t).trans (word_index m t))).trans (host_27 m c _ j)
theorem block_3_at (k j : Fin 1024) : (iblk (adm m) (V m) c 3 t (ix3 0 k j) : EReal)
    = kD m c (exOf (kCnt m 0) (nOf m t)) k j :=
  (read_3 (adm m) (V m) c t _ k j ((index_D (adm m) t).trans (word_index m t))).trans (host_28 m c _ k j)
theorem block_4_at (j : Fin 1024) : (iblk (adm m) (V m) c 4 t (ix3 0 0 j) : EReal)
    = kDb m c (exOf (kCnt m 0) (nOf m t)) j :=
  (read_4 (adm m) (V m) c t _ j ((index_Db (adm m) t).trans (word_index m t))).trans (host_30 m c _ j)

/-- What a point leaves of the result. -/
theorem oTile_at (r : Fin 512) (j : Fin 1024) : (oTile (adm m) (V m) c t (ix2 r j) : EReal)
    = rowOut (kCnt m 0) (kX m c) (kG m c) (kGb m c) (kD m c) (kDb m c) (nOf m t) r j := by
  unfold oTile rowOut
  by_cases h : live (adm m) t
  · rw [if_pos h, if_pos ((live_at m t).mp h)]
    refine (pay4_at _ _ _ _ _ r j).trans ?_
    have e0 : (fun k => (iblk (adm m) (V m) c 0 t (ix2 r k) : EReal)) = kX m c ⟨t.val * 512 + r.val, by have := points (adm m) t; omega⟩ :=
      funext fun k => block_0_at m c t r k
    have e1 : (fun k e => (gTile (adm m) (V m) c t (ix2 k e) : EReal)) = kG m c (exOf (kCnt m 0) (nOf m t)) :=
      funext fun k => funext fun e => (pay2_at _ k e).trans (block_1_at m c t k e)
    have e2 : (fun e => (iblk (adm m) (V m) c 2 t (ix3 0 0 e) : EReal)) = kGb m c (exOf (kCnt m 0) (nOf m t)) :=
      funext fun e => block_2_at m c t e
    have e3 : (fun k e => (dTile (adm m) (V m) c t (ix2 k e) : EReal)) = kD m c (exOf (kCnt m 0) (nOf m t)) :=
      funext fun k => funext fun e => (pay3_at _ k e).trans (block_3_at m c t k e)
    have e4 : (fun e => (iblk (adm m) (V m) c 4 t (ix3 0 0 e) : EReal)) = kDb m c (exOf (kCnt m 0) (nOf m t)) :=
      funext fun e => block_4_at m c t e
    exact (congrArg (fun x => expert x _ _ _ _ j) e0).trans ((congrArg (fun x => expert _ x _ _ _ j) e1).trans
      ((congrArg (fun x => expert _ _ x _ _ j) e2).trans ((congrArg (fun x => expert _ _ _ x _ j) e3).trans
        (congrArg (fun x => expert _ _ _ _ x j) e4))))
  · rw [if_neg h, if_neg fun h' => h ((live_at m t).mpr h')]
    exact pay1_at r j

/-! ## The array -/

/-- The result. -/
def res : S147456x1024.Idx → EReal := fun i =>
  rowOut (kCnt m 0) (kX m c) (kG m c) (kGb m c) (kD m c) (kDb m c)
    ⟨(i 0).val / 512, by have : (i 0).val < 147456 := (i 0).isLt; omega⟩ ⟨(i 0).val % 512, by omega⟩ (i 1)

theorem final_5 : (dats (adm m) (V m) 0 c).arrAt (5 : Fin 6) (cfg0 (adm m)).N = res m c := by
  refine arr_of_tiles (adm m) (V m) c (res m c) fun t r j => (oTile_at m c t r j).trans ?_
  unfold res
  refine congrArg₂ (fun n s => rowOut (kCnt m 0) (kX m c) (kG m c) (kGb m c) (kD m c) (kDb m c) n s j) (Fin.ext ?_) (Fin.ext ?_)
  · show t.val = (t.val * 512 + r.val) / 512; omega
  · show r.val = (t.val * 512 + r.val) % 512; omega

end Cert.Exp

end
-- ==== Proof.ExpRef.lean ====
/- The experts' plain program, read at an index: the gathers, then each result row through its block's expert. -/
module

public import proofs.«01_k».proof.Proof.ExpValue
public import proofs.«01_k».proof.Proof.Gen.RExpIdeal.Run
public import Idealize.ShloMosaic.Lib.ValueIdxCore

@[expose] public section

set_option maxRecDepth 16384

noncomputable section

namespace Cert.ExpRef

open Idealize.ShloMosaic Idealize.ShloMosaic.TcCoe Idealize.SL.Sem Idealize.ShloMosaic.Tactic
open Cert.RExpIdeal Cert.RExpIdeal.Gen Cert.Rows Cert.Exp

section Gathers
variable {α : Type}

/-- A stack of matrices gathered by one index a place: place `n` holds the matrix the index names, clamped to the stack. -/
theorem gather_mats {N A B M w : ℕ} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (n : Fin M) (k : Fin A) (j : Fin B) :
    Host.gather (⟨[1, 2], [0], [], [], [0], 1, ![1, A, B], wf⟩ : GatherDims ⟨3, ![N, A, B]⟩ ⟨2, ![M, 1]⟩ ⟨3, ![M, A, B]⟩) x idx (ix3 n k j)
      = x (ix3 (⟨min (idx (ix2 n 0)).toInt.toNat (N - 1), by omega⟩ : Fin N) k j) := by
  unfold Host.gather
  congr 1
  funext (a : Fin 3)
  refine Fin.ext ?_
  generalize hd : (⟨[1, 2], [0], [], [], [0], 1, ![1, A, B], wf⟩ : GatherDims ⟨3, ![N, A, B]⟩ ⟨2, ![M, 1]⟩ ⟨3, ![M, A, B]⟩) = d
  show d.start (ix3 n k j) idx a + d.batchCoord (ix3 n k j) a + d.offCoord (ix3 n k j) a = _
  subst hd
  rw [GatherDims.batchCoord_eq_zero _ _ _ List.not_mem_nil]
  unfold GatherDims.start
  match a with
  | ⟨0, _⟩ =>
    rw [GatherDims.offCoord_eq_zero _ _ _ (fun h => ((GatherDims.mem_sKept _ _).mp h).1 (List.mem_singleton.mpr rfl))]
    refine congrArg (· + 0 + 0) (dif_pos (List.mem_singleton.mpr rfl)) |>.trans ?_
    simp only [Nat.add_zero]
    refine congrArg (fun z => min (idx z).toInt.toNat (N - 1)) ?_
    funext (b : Fin 2)
    refine Fin.ext ?_
    match b with
    | ⟨0, _⟩ => rfl
    | ⟨1, _⟩ => rfl
  | ⟨1, _⟩ =>
    unfold GatherDims.offCoord
    refine (congrArg₂ (fun p q => p + 0 + q) (dif_neg (show (1 : Fin 3) ∉ ([0] : List (Fin 3)) by decide))
      (dif_pos ((GatherDims.mem_sKept _ _).mpr ⟨show (1 : Fin 3) ∉ ([0] : List (Fin 3)) by decide, List.not_mem_nil⟩))).trans ?_
    show 0 + 0 + k.val = k.val
    omega
  | ⟨2, _⟩ =>
    unfold GatherDims.offCoord
    refine (congrArg₂ (fun p q => p + 0 + q) (dif_neg (show (2 : Fin 3) ∉ ([0] : List (Fin 3)) by decide))
      (dif_pos ((GatherDims.mem_sKept _ _).mpr ⟨show (2 : Fin 3) ∉ ([0] : List (Fin 3)) by decide, List.not_mem_nil⟩))).trans ?_
    show 0 + 0 + j.val = j.val
    omega

/-- A stack of rows likewise. -/
theorem gather_rows {N B M w : ℕ} (hN : 0 < N)
    (wf : GatherDims.WF ⟨2, ![N, B]⟩ ⟨2, ![M, 1]⟩ ⟨2, ![M, B]⟩ [1] [0] [] [0] [] 1 ![1, B])
    (x : (⟨2, ![N, B]⟩ : Shape).Idx → α) (idx : IVec ⟨2, ![M, 1]⟩ w) (n : Fin M) (j : Fin B) :
    Host.gather (⟨[1], [0], [], [], [0], 1, ![1, B], wf⟩ : GatherDims ⟨2, ![N, B]⟩ ⟨2, ![M, 1]⟩ ⟨2, ![M, B]⟩) x idx (ix2 n j)
      = x (ix2 (⟨min (idx (ix2 n 0)).toInt.toNat (N - 1), by omega⟩ : Fin N) j) := by
  unfold Host.gather
  congr 1
  funext (a : Fin 2)
  refine Fin.ext ?_
  generalize hd : (⟨[1], [0], [], [], [0], 1, ![1, B], wf⟩ : GatherDims ⟨2, ![N, B]⟩ ⟨2, ![M, 1]⟩ ⟨2, ![M, B]⟩) = d
  show d.start (ix2 n j) idx a + d.batchCoord (ix2 n j) a + d.offCoord (ix2 n j) a = _
  subst hd
  rw [GatherDims.batchCoord_eq_zero _ _ _ List.not_mem_nil]
  unfold GatherDims.start
  match a with
  | ⟨0, _⟩ =>
    rw [GatherDims.offCoord_eq_zero _ _ _ (fun h => ((GatherDims.mem_sKept _ _).mp h).1 (List.mem_singleton.mpr rfl))]
    refine congrArg (· + 0 + 0) (dif_pos (List.mem_singleton.mpr rfl)) |>.trans ?_
    simp only [Nat.add_zero]
    refine congrArg (fun z => min (idx z).toInt.toNat (N - 1)) ?_
    funext (b : Fin 2)
    refine Fin.ext ?_
    match b with
    | ⟨0, _⟩ => rfl
    | ⟨1, _⟩ => rfl
  | ⟨1, _⟩ =>
    unfold GatherDims.offCoord
    refine (congrArg₂ (fun p q => p + 0 + q) (dif_neg (show (1 : Fin 2) ∉ ([0] : List (Fin 2)) by decide))
      (dif_pos ((GatherDims.mem_sKept _ _).mpr ⟨show (1 : Fin 2) ∉ ([0] : List (Fin 2)) by decide, List.not_mem_nil⟩))).trans ?_
    show 0 + 0 + j.val = j.val
    omega

end Gathers

/-! ## The program's pieces -/

/-- The index a gather takes: a negative expert counts from the end. -/
def wrap (E : IVec S288 32) : IVec S288x1 32 :=
  broadcastInDim S288x1 ![0] bcast_S288_S288x1_0 (select (cmpi .slt E (broadcastInDim S288 ![] bcast_S_S288 (constantI S_ 32 0#32)))
    (addi E (broadcastInDim S288 ![] bcast_S_S288 (constantI S_ 32 32#32))) E)

/-- Gates and ups. -/
def gateUp (E : IVec S288 32) (x : FVec Ideal S147456x1024 .f32) (w : FVec Ideal S1x32x1024x2048 .f32) (b : FVec Ideal S1x32x2048 .f32) :
    FVec Ideal S288x512x2048 .f32 :=
  addf (Host.dotGeneral dot_S288x512x1024_S288x1024x2048_S288x512x2048_2_1_1_2_0_0 none (shapeCast _ x shapeCasts_S147456x1024_S288x512x1024)
      (Host.gather gather_S32x1024x2048_S288x1_S288x1024x2048_12_0_n_n_0_1_110242048 (shapeCast _ w shapeCasts_S1x32x1024x2048_S32x1024x2048) (wrap E)))
    (broadcastInDim S288x512x2048 ![0, 1, 2] bcast_S288x1x2048_S288x512x2048_0_1_2 (broadcastInDim S288x1x2048 ![0, 2] bcast_S288x2048_S288x1x2048_0_2
      (Host.gather gather_S32x2048_S288x1_S288x2048_1_0_n_n_0_1_12048 (shapeCast _ b shapeCasts_S1x32x2048_S32x2048) (wrap E))))

/-- The gated units. -/
def units (g : FVec Ideal S288x512x2048 .f32) : FVec Ideal S288x512x1024 .f32 :=
  (mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] g slices_S288x512x2048_S288x512x1024_0_0_1024))) (broadcastInDim S288x512x1024 ![] bcast_S_S288x512x1024 (constant S_ .f32 0x3F800000#32))) (mulf (minimumf (extractStridedSlice S288x512x1024 ![0, 0, 0] g slices_S288x512x2048_S288x512x1024_0_0_0) (broadcastInDim S288x512x1024 ![] bcast_S_S288x512x1024 (constant S_ .f32 0x40E00000#32))) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] g slices_S288x512x2048_S288x512x1024_0_0_0) (broadcastInDim S288x512x1024 ![] bcast_S_S288x512x1024 (constant S_ .f32 0x40E00000#32))))))))))

/-- The rows through the second matrices. -/
def down (E : IVec S288 32) (u : FVec Ideal S288x512x1024 .f32) (v : FVec Ideal S1x32x1024x1024 .f32) (d : FVec Ideal S1x32x1024 .f32) :
    FVec Ideal S288x512x1024 .f32 :=
  addf (Host.dotGeneral dot_S288x512x1024_S288x1024x1024_S288x512x1024_2_1_1_2_0_0 none u
      (Host.gather gather_S32x1024x1024_S288x1_S288x1024x1024_12_0_n_n_0_1_110241024 (shapeCast _ v shapeCasts_S1x32x1024x1024_S32x1024x1024) (wrap E)))
    (broadcastInDim S288x512x1024 ![0, 1, 2] bcast_S288x1x1024_S288x512x1024_0_1_2 (broadcastInDim S288x1x1024 ![0, 2] bcast_S288x1024_S288x1x1024_0_2
      (Host.gather gather_S32x1024_S288x1_S288x1024_1_0_n_n_0_1_11024 (shapeCast _ d shapeCasts_S1x32x1024_S32x1024) (wrap E))))

/-- The blocks in use kept, the others zero. -/
def kept (N : IVec S_ 32) (y : FVec Ideal S288x512x1024 .f32) : FVec Ideal S147456x1024 .f32 :=
  shapeCast _ (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 N)))) y (broadcastInDim S288x512x1024 ![] bcast_S_S288x512x1024 (id (constant S_ .f32 0x00000000#32)))) shapeCasts_S288x512x1024_S147456x1024

/-- How many blocks are in use, a single word divided by 512. -/
def inUse0 (e : IVec S32 32) : IVec S_ 32 :=
  (select (andi (cmpi .ne (signi (shapeCast _ (extractStridedSlice S1 ![31] e slices_S32_S1_31) shapeCasts_S1_S_)) (signi (id (constantI S_ 32 512#32)))) (cmpi .ne (Host.remsi (shapeCast _ (extractStridedSlice S1 ![31] e slices_S32_S1_31) shapeCasts_S1_S_) (id (constantI S_ 32 512#32))) (constantI S_ 32 0#32))) (subi (Host.divsi (shapeCast _ (extractStridedSlice S1 ![31] e slices_S32_S1_31) shapeCasts_S1_S_) (id (constantI S_ 32 512#32))) (constantI S_ 32 1#32)) (Host.divsi (shapeCast _ (extractStridedSlice S1 ![31] e slices_S32_S1_31) shapeCasts_S1_S_) (id (constantI S_ 32 512#32))))

/-- The program's result, by its pieces. -/
theorem result_eq (m : (ℓ : Loc nD τ sig) → Buf (Elt Ideal) ℓ) (c : Dev nD) :
    Cert.RExpIdeal.Value.res_main_v89 m c = kept (inUse0 (ends (F := Ideal) (m ((c.tc : Thread nD τ).loc main_arg0))))
      (down (expertOf (ends (F := Ideal) (m ((c.tc : Thread nD τ).loc main_arg0))))
        (units (gateUp (expertOf (ends (F := Ideal) (m ((c.tc : Thread nD τ).loc main_arg0)))) (m ((c.tc : Thread nD τ).loc main_arg1))
          (m ((c.tc : Thread nD τ).loc main_arg2)) (m ((c.tc : Thread nD τ).loc main_arg3))))
        (m ((c.tc : Thread nD τ).loc main_arg4)) (m ((c.tc : Thread nD τ).loc main_arg5))) := by
  unfold Cert.RExpIdeal.Value.res_main_v89 kept down units gateUp wrap inUse0 expertOf ended ends blocks32 raised all32 all288
  rfl

/-! ## The pieces at an index -/

/-- The expert a block's word names. -/
abbrev word (E : IVec S288 32) (hE : ∀ i, (E i).toNat ≤ 31) (n : Fin 288) : Fin 32 := ⟨(E (ix1 n)).toNat, Nat.lt_succ_of_le (hE _)⟩

theorem wrapped (e : BitVec 32) (h : e.toNat ≤ 31) :
    min (if IntOp.cmpi .slt e 0#32 = 1#1 then IntOp.addi e 32#32 else e).toInt.toNat 31 = e.toNat := by
  have ht : e.toInt = (e.toNat : ℤ) := BitVec.toInt_eq_toNat_of_lt (by omega)
  have hs : ¬ IntOp.cmpi .slt e 0#32 = 1#1 := by
    show ¬ BitVec.ofBool (e.slt 0#32) = 1#1
    rw [BitVec.slt, ht, decide_eq_false (by show ¬ (e.toNat : ℤ) < 0; omega)]
    decide
  rw [if_neg hs, ht]
  omega

theorem wrap_at (E : IVec S288 32) (hE : ∀ i, (E i).toNat ≤ 31) (n : Fin 288) :
    min (wrap E (ix2 n 0)).toInt.toNat (32 - 1) = (E (ix1 n)).toNat := by
  refine Eq.trans ?_ (wrapped (E (ix1 n)) (hE _))
  refine congrArg (fun z : BitVec 32 => min z.toInt.toNat 31) ?_
  pointwise [wrap]
  rfl

theorem dot_up (A : FVec Ideal S288x512x1024 .f32) (B : FVec Ideal S288x1024x2048 .f32) (n : Fin 288) (r : Fin 512) (e : Fin 2048) :
    (Host.dotGeneral dot_S288x512x1024_S288x1024x2048_S288x512x2048_2_1_1_2_0_0 none A B (ix3 n r e) : EReal)
      = rowMul (fun k => A (ix3 n r k)) (fun k e => B (ix3 n k e)) e := by
  pointwise
  rfl

theorem dot_down (A : FVec Ideal S288x512x1024 .f32) (B : FVec Ideal S288x1024x1024 .f32) (n : Fin 288) (r : Fin 512) (j : Fin 1024) :
    (Host.dotGeneral dot_S288x512x1024_S288x1024x1024_S288x512x1024_2_1_1_2_0_0 none A B (ix3 n r j) : EReal)
      = rowMul (fun k => A (ix3 n r k)) (fun k j => B (ix3 n k j)) j := by
  pointwise
  rfl

theorem rows_at (x : FVec Ideal S147456x1024 .f32) (n : Fin 288) (r : Fin 512) (k : Fin 1024) :
    (shapeCast S288x512x1024 x shapeCasts_S147456x1024_S288x512x1024 (ix3 n r k) : EReal) = x (ix2 (⟨n.val * 512 + r.val, by omega⟩ : Fin 147456) k) := by
  pointwise

theorem up_at (w : FVec Ideal S1x32x1024x2048 .f32) (g : Fin 32) (k : Fin 1024) (e : Fin 2048) :
    (shapeCast S32x1024x2048 w shapeCasts_S1x32x1024x2048_S32x1024x2048 (ix3 g k e) : EReal) = w (ix4 0 g k e) := by
  pointwise

theorem upBias_at (b : FVec Ideal S1x32x2048 .f32) (g : Fin 32) (e : Fin 2048) :
    (shapeCast S32x2048 b shapeCasts_S1x32x2048_S32x2048 (ix2 g e) : EReal) = b (ix3 0 g e) := by
  pointwise

theorem down_at0 (v : FVec Ideal S1x32x1024x1024 .f32) (g : Fin 32) (k j : Fin 1024) :
    (shapeCast S32x1024x1024 v shapeCasts_S1x32x1024x1024_S32x1024x1024 (ix3 g k j) : EReal) = v (ix4 0 g k j) := by
  pointwise

theorem downBias_at (d : FVec Ideal S1x32x1024 .f32) (g : Fin 32) (j : Fin 1024) :
    (shapeCast S32x1024 d shapeCasts_S1x32x1024_S32x1024 (ix2 g j) : EReal) = d (ix3 0 g j) := by
  pointwise

theorem spreadUp (b : FVec Ideal S288x2048 .f32) (n : Fin 288) (r : Fin 512) (e : Fin 2048) :
    (broadcastInDim S288x512x2048 ![0, 1, 2] bcast_S288x1x2048_S288x512x2048_0_1_2 (broadcastInDim S288x1x2048 ![0, 2] bcast_S288x2048_S288x1x2048_0_2 b) (ix3 n r e) : EReal)
      = b (ix2 n e) := by
  pointwise

theorem spreadDown (b : FVec Ideal S288x1024 .f32) (n : Fin 288) (r : Fin 512) (e : Fin 1024) :
    (broadcastInDim S288x512x1024 ![0, 1, 2] bcast_S288x1x1024_S288x512x1024_0_1_2 (broadcastInDim S288x1x1024 ![0, 2] bcast_S288x1024_S288x1x1024_0_2 b) (ix3 n r e) : EReal)
      = b (ix2 n e) := by
  pointwise

theorem units_at (g : FVec Ideal S288x512x2048 .f32) (n : Fin 288) (r : Fin 512) (j : Fin 1024) :
    (units g (ix3 n r j) : EReal) = unit (fun e => g (ix3 n r e)) j := by
  pointwise [units]
  unfold unit gate
  simp only [zero_sub]
  rfl

/-- Whether a block's row is kept. -/
theorem kept_at (N : IVec S_ 32) (y : FVec Ideal S288x512x1024 .f32) (R : Fin 147456) (j : Fin 1024) :
    (kept N y (ix2 R j) : EReal)
      = if IntOp.cmpi .slt (BitVec.ofNat 32 (R.val / 512)) (N ix0) = 1#1 then
          (y (ix3 (⟨R.val / 512, by omega⟩ : Fin 288) (⟨R.val % 512, by omega⟩ : Fin 512) j) : EReal) else 0 := by
  pointwise [kept, id]
  rfl

theorem inUse0_at (e : IVec S32 32) : inUse0 e ix0 = inUse e (ix1 0) := by
  pointwise [inUse0, inUse, blocks1, id]

theorem taken_up (E : IVec S288 32) (hE : ∀ i, (E i).toNat ≤ 31) (w : FVec Ideal S1x32x1024x2048 .f32) (n : Fin 288) (k : Fin 1024) (e : Fin 2048) :
    (Host.gather gather_S32x1024x2048_S288x1_S288x1024x2048_12_0_n_n_0_1_110242048 (shapeCast S32x1024x2048 w shapeCasts_S1x32x1024x2048_S32x1024x2048) (wrap E) (ix3 n k e) : EReal)
      = w (ix4 0 (word E hE n) k e) := by
  refine (gather_mats (by decide) _ _ _ n k e).trans ((congrArg (fun g => shapeCast S32x1024x2048 w shapeCasts_S1x32x1024x2048_S32x1024x2048 (ix3 g k e)) ?_).trans (up_at w _ k e))
  exact Fin.ext (wrap_at E hE n)

theorem taken_upBias (E : IVec S288 32) (hE : ∀ i, (E i).toNat ≤ 31) (b : FVec Ideal S1x32x2048 .f32) (n : Fin 288) (e : Fin 2048) :
    (Host.gather gather_S32x2048_S288x1_S288x2048_1_0_n_n_0_1_12048 (shapeCast S32x2048 b shapeCasts_S1x32x2048_S32x2048) (wrap E) (ix2 n e) : EReal)
      = b (ix3 0 (word E hE n) e) := by
  refine (gather_rows (by decide) _ _ _ n e).trans ((congrArg (fun g => shapeCast S32x2048 b shapeCasts_S1x32x2048_S32x2048 (ix2 g e)) ?_).trans (upBias_at b _ e))
  exact Fin.ext (wrap_at E hE n)

theorem taken_down (E : IVec S288 32) (hE : ∀ i, (E i).toNat ≤ 31) (v : FVec Ideal S1x32x1024x1024 .f32) (n : Fin 288) (k j : Fin 1024) :
    (Host.gather gather_S32x1024x1024_S288x1_S288x1024x1024_12_0_n_n_0_1_110241024 (shapeCast S32x1024x1024 v shapeCasts_S1x32x1024x1024_S32x1024x1024) (wrap E) (ix3 n k j) : EReal)
      = v (ix4 0 (word E hE n) k j) := by
  refine (gather_mats (by decide) _ _ _ n k j).trans ((congrArg (fun g => shapeCast S32x1024x1024 v shapeCasts_S1x32x1024x1024_S32x1024x1024 (ix3 g k j)) ?_).trans (down_at0 v _ k j))
  exact Fin.ext (wrap_at E hE n)

theorem taken_downBias (E : IVec S288 32) (hE : ∀ i, (E i).toNat ≤ 31) (d : FVec Ideal S1x32x1024 .f32) (n : Fin 288) (j : Fin 1024) :
    (Host.gather gather_S32x1024_S288x1_S288x1024_1_0_n_n_0_1_11024 (shapeCast S32x1024 d shapeCasts_S1x32x1024_S32x1024) (wrap E) (ix2 n j) : EReal)
      = d (ix3 0 (word E hE n) j) := by
  refine (gather_rows (by decide) _ _ _ n j).trans ((congrArg (fun g => shapeCast S32x1024 d shapeCasts_S1x32x1024_S32x1024 (ix2 g j)) ?_).trans (downBias_at d _ j))
  exact Fin.ext (wrap_at E hE n)

theorem gateUp_at (E : IVec S288 32) (hE : ∀ i, (E i).toNat ≤ 31) (x : FVec Ideal S147456x1024 .f32) (w : FVec Ideal S1x32x1024x2048 .f32)
    (b : FVec Ideal S1x32x2048 .f32) (n : Fin 288) (r : Fin 512) (e : Fin 2048) :
    (gateUp E x w b (ix3 n r e) : EReal)
      = rowMul (fun k => x (ix2 (⟨n.val * 512 + r.val, by omega⟩ : Fin 147456) k)) (fun k e => w (ix4 0 (word E hE n) k e)) e
        + b (ix3 0 (word E hE n) e) := by
  refine congrArg₂ (fun p q : EReal => p + q) ((dot_up _ _ n r e).trans ?_) ((spreadUp _ n r e).trans (taken_upBias E hE b n e))
  exact congrArg₂ (fun X W => rowMul X W e) (funext fun k => rows_at x n r k) (funext fun k => funext fun e => taken_up E hE w n k e)

theorem down_at (E : IVec S288 32) (hE : ∀ i, (E i).toNat ≤ 31) (u : FVec Ideal S288x512x1024 .f32) (v : FVec Ideal S1x32x1024x1024 .f32)
    (d : FVec Ideal S1x32x1024 .f32) (n : Fin 288) (r : Fin 512) (j : Fin 1024) :
    (down E u v d (ix3 n r j) : EReal)
      = rowMul (fun k => u (ix3 n r k)) (fun k j => v (ix4 0 (word E hE n) k j)) j + d (ix3 0 (word E hE n) j) := by
  refine congrArg₂ (fun p q : EReal => p + q) ((dot_down _ _ n r j).trans ?_) ((spreadDown _ n r j).trans (taken_downBias E hE d n j))
  exact congrArg (fun W => rowMul (fun k => u (ix3 n r k)) W j) (funext fun k => funext fun j => taken_down E hE v n k j)

/-- A block's row through its expert. -/
theorem through_at (E : IVec S288 32) (hE : ∀ i, (E i).toNat ≤ 31) (x : FVec Ideal S147456x1024 .f32) (w : FVec Ideal S1x32x1024x2048 .f32)
    (b : FVec Ideal S1x32x2048 .f32) (v : FVec Ideal S1x32x1024x1024 .f32) (d : FVec Ideal S1x32x1024 .f32) (n : Fin 288) (r : Fin 512) (j : Fin 1024) :
    (down E (units (gateUp E x w b)) v d (ix3 n r j) : EReal)
      = expert (fun k => x (ix2 (⟨n.val * 512 + r.val, by omega⟩ : Fin 147456) k)) (fun k e => w (ix4 0 (word E hE n) k e))
          (fun e => b (ix3 0 (word E hE n) e)) (fun k j => v (ix4 0 (word E hE n) k j)) (fun j => d (ix3 0 (word E hE n) j)) j := by
  refine (down_at E hE _ v d n r j).trans ?_
  unfold expert
  refine congrArg (fun u => rowMul u (fun k j => v (ix4 0 (word E hE n) k j)) j + d (ix3 0 (word E hE n) j)) (funext fun k => ?_)
  refine (units_at _ n r k).trans ?_
  exact congrArg (fun g => unit g k) (funext fun e => gateUp_at E hE x w b n r e)

/-- The plain program's result at an index. -/
theorem result_at (cnt : FVec Ideal S8x128 .f32) (x : FVec Ideal S147456x1024 .f32) (w : FVec Ideal S1x32x1024x2048 .f32)
    (b : FVec Ideal S1x32x2048 .f32) (v : FVec Ideal S1x32x1024x1024 .f32) (d : FVec Ideal S1x32x1024 .f32) (R : Fin 147456) (j : Fin 1024) :
    (kept (inUse0 (ends cnt)) (down (expertOf (ends cnt)) (units (gateUp (expertOf (ends cnt)) x w b)) v d) (ix2 R j) : EReal)
      = rowOut cnt (fun R k => x (ix2 R k)) (fun g k e => w (ix4 0 g k e)) (fun g e => b (ix3 0 g e)) (fun g k j => v (ix4 0 g k j))
          (fun g j => d (ix3 0 g j)) (⟨R.val / 512, by omega⟩ : Fin 288) (⟨R.val % 512, by omega⟩ : Fin 512) j := by
  refine (kept_at _ _ R j).trans ?_
  rw [inUse0_at]
  have hk : IntOp.cmpi .slt (BitVec.ofNat 32 (R.val / 512)) (inUse (ends cnt) (ix1 0)) = 1#1
      ↔ inUseAt cnt (⟨R.val / 512, by omega⟩ : Fin 288) := by
    unfold inUseAt
    show BitVec.ofBool (BitVec.slt _ _) = 1#1 ↔ _
    rw [BitVec.slt, small_word _ (by omega)]
    by_cases h : ((R.val / 512 : ℕ) : ℤ) < (inUse (ends cnt) (ix1 0) : BitVec 32).toInt
    · rw [decide_eq_true h]; exact ⟨fun _ => h, fun _ => by decide⟩
    · rw [decide_eq_false h]; exact ⟨fun h' => absurd h' (by decide), fun h' => absurd h' h⟩
  unfold rowOut
  by_cases h : inUseAt cnt (⟨R.val / 512, by omega⟩ : Fin 288)
  · rw [if_pos h, if_pos (hk.mpr h)]
    exact through_at (expertOf (ends cnt)) (expertOf_le _) x w b v d _ _ j
  · rw [if_neg h, if_neg (fun h' => h (hk.mp h'))]

end Cert.ExpRef

end
-- ==== Proof.ExpClaim.lean ====
/- The experts: what the kernel leaves is the plain program's result, row by row. -/
module

public import proofs.«01_k».proof.Defs
public import proofs.«01_k».proof.Proof.ExpText
public import proofs.«01_k».proof.Proof.ExpValue
public import proofs.«01_k».proof.Proof.ExpRef
public import proofs.«01_k».proof.Proof.Gen.RExpIdeal.Run
public import Idealize.ShloMosaic.Lib.Quiescent

@[expose] public section

set_option maxRecDepth 16384

noncomputable section

namespace Cert.Proof

open Idealize.ShloMosaic Idealize.ShloMosaic.TcCoe Idealize.SL.Sem

theorem quiescent_RExpIdeal : quiescent_RExpIdeal := fun m ρ _ =>
  (θ_run Cert.RExpIdeal.defs _ _).mono (fun r h => ⟨fun c => (h c).2, sem_eq_zero_of_no_sems (by decide) r.2⟩)
    (Cert.RExpIdeal.Value.run (F := Ideal) m ρ)

/-- The rows through their experts are the reference's. -/
theorem algebraic_KExpIdeal_RExpIdeal : algebraic_KExpIdeal_RExpIdeal := by
  intro m ρ m' ρ' _ hagree
  refine ⟨Cert.Exp.res m, (θ_run Cert.KExpIdeal.defs _ _).mono (fun _ h c => ⟨((h.1 c).1 (5 : Fin 6)).trans (Cert.Exp.final_5 m c),
    Cert.Exp.args_kept m _ h.1 c⟩) (Cert.Exp.run_all (F := Ideal) m ρ), ?_⟩
  refine (θ_run Cert.RExpIdeal.defs _ _).mono (fun _ h c => ⟨(h c).1.trans ?_, (h c).2⟩) (Cert.RExpIdeal.Value.run (F := Ideal) m' ρ')
  obtain rfl : c = 0 := Subsingleton.elim (α := Fin 1) c 0
  obtain ⟨h0, h1, h2, h3, h4, h5⟩ := hagree 0
  refine (Cert.ExpRef.result_eq m' 0).trans ?_
  rw [h0, h1, h2, h3, h4, h5]
  funext (i : Cert.KExpIdeal.S147456x1024.Idx)
  obtain ⟨R, j, rfl⟩ : ∃ (R : Fin 147456) (j : Fin 1024), i = ix2 R j := ⟨i 0, i 1, by funext a; fin_cases a <;> rfl⟩
  exact Cert.ExpRef.result_at _ _ _ _ _ _ R j

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import Idealize.ShloMosaic.Lib.Tactic.ValueTie
public import proofs.«01_k».proof.Proof.MixValue
public import proofs.«01_k».proof.Proof.MixRef
public import proofs.«01_k».proof.Proof.ProjClaim
public import proofs.«01_k».proof.Proof.MemClaim
public import proofs.«01_k».proof.Proof.ExpClaim

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attended stream of the kernel is the reference's: both are the same row function of arguments that agree. -/
theorem algebraic_KernelIdeal_ReferenceIdeal : algebraic_KernelIdeal_ReferenceIdeal := by
  intro m ρ m' ρ' _ hagree
  refine ⟨fun c => Cert.KernelIdeal.Value.G18 m c, (θ_run Cert.KernelIdeal.defs _ _).mono
    (fun _ h c => ⟨(h c).1, (h c).2.2.2.2⟩) (Cert.KernelIdeal.Value.run (F := Ideal) m ρ), ?_⟩
  refine (θ_run Cert.ReferenceIdeal.defs _ _).mono (fun _ h c => ⟨?_, (h c).2⟩)
    (Cert.ReferenceIdeal.Value.run (F := Ideal) m' ρ')
  rw [(h c).1]
  funext (i : Cert.KernelIdeal.S32768x1024.Idx)
  obtain ⟨R, j, rfl⟩ : ∃ (R : Fin 32768) (j : Fin 1024), i = ix2 R j :=
    ⟨i 0, i 1, by funext a; fin_cases a <;> rfl⟩
  refine Eq.trans ?_ (Cert.Mix.stream_at m c R j).symm
  pointwise []
  simp only [Cert.MixRef.v89_at, Cert.MixRef.v95_at, Cert.MixRef.v97_at]
  have eR : Cert.MixRef.strRow ⟨R / 2048, by omega⟩ ⟨R % 2048, by omega⟩ = R := Fin.ext (by
    show R.val / 2048 * 2048 + R.val % 2048 = R.val; omega)
  rw [eR]
  obtain ⟨h0, h1, h2, h3, h4, h5, h6, h7, h8, h9, h10, h11, h12, h13, h14, -, -⟩ := hagree c
  let V0 := StableHlo.launchContents m' c
  have e_rHm : Cert.MixRef.rHm V0 = Cert.Mix.kHm m c := funext fun _ => funext fun _ => congrFun h0 _
  have e_rOg : Cert.MixRef.rOg V0 = Cert.Mix.kOg m c := funext fun _ => funext fun _ => congrFun h1 _
  have e_rGm : Cert.MixRef.rGm V0 = Cert.Mix.kGm m c := funext fun _ => funext fun _ => congrFun h2 _
  have e_rGg : Cert.MixRef.rGg V0 = Cert.Mix.kGg m c := funext fun _ => funext fun _ => congrFun h2 _
  have e_rH0 : Cert.MixRef.rH0 V0 = Cert.Mix.kH0 m c := funext fun _ => funext fun _ => congrFun h3 _
  have e_wMl : Cert.MixRef.wMl V0 = Cert.Mix.kMl m c := funext fun _ => funext fun _ => congrFun h4 _
  have e_wGdn : Cert.MixRef.wGdn V0 = Cert.Mix.kGdn m c := funext fun _ => funext fun _ => congrFun h5 _
  have e_wOut : Cert.MixRef.wOut V0 = Cert.Mix.kOut m c := funext fun _ => funext fun _ => congrFun h6 _
  have e_g1 : Cert.MixRef.g1 V0 = Cert.Mix.kg1 m c := funext fun _ => congrFun h7 _
  have e_b1 : Cert.MixRef.b1 V0 = Cert.Mix.kb1 m c := funext fun _ => congrFun h8 _
  have e_memK : Cert.MixRef.memK V0 = Cert.Mix.kK m c := funext fun _ => funext fun _ => funext fun _ => congrFun h9 _
  have e_memV : Cert.MixRef.memV V0 = Cert.Mix.kV m c := funext fun _ => funext fun _ => funext fun _ => congrFun h10 _
  have e_wQ : Cert.MixRef.wQ V0 = Cert.Mix.kQ m c := funext fun _ => funext fun _ => congrFun h11 _
  have e_wXo : Cert.MixRef.wXo V0 = Cert.Mix.kXo m c := funext fun _ => funext fun _ => congrFun h12 _
  have e_g2 : Cert.MixRef.g2 V0 = Cert.Mix.kg2 m c := funext fun _ => congrFun h13 _
  have e_b2 : Cert.MixRef.b2 V0 = Cert.Mix.kb2 m c := funext fun _ => congrFun h14 _
  refine Eq.trans (b := Cert.Rows.norm (Cert.MixRef.pre2 V0 ⟨R / 2048, by omega⟩ R) (Cert.MixRef.g2 V0)
    (Cert.MixRef.b2 V0) j) rfl ?_
  simp only [Cert.MixRef.pre2, Cert.MixRef.query, Cert.MixRef.post1, Cert.MixRef.pre1, e_rHm, e_rOg, e_rGm, e_rGg, e_rH0, e_wMl, e_wGdn, e_wOut, e_g1, e_b1, e_memK, e_memV, e_wQ, e_wXo, e_g2, e_b2]
  rfl

theorem claim : Cert.Claim := ⟨Cert.Kernel.Gen.facts, Cert.KernelIdeal.Gen.facts, Cert.ReferenceIdeal.Gen.facts,
  Cert.KProj.Gen.facts, Cert.KProjIdeal.Gen.facts, Cert.RProjIdeal.Gen.facts,
  Cert.KMem.Gen.facts, Cert.KMemIdeal.Gen.facts, Cert.RMemIdeal.Gen.facts,
  Cert.KExp.Gen.facts, Cert.KExpIdeal.Gen.facts, Cert.RExpIdeal.Gen.facts,
  fun m ρ _ => Cert.Kernel.Gen.frame m ρ, fun m ρ _ => Cert.KernelIdeal.Gen.frame m ρ, quiescent_ReferenceIdeal,
  quiescent_KProj, quiescent_KProjIdeal, quiescent_RProjIdeal,
  fun m ρ _ => Cert.KMem.Gen.frame m ρ, fun m ρ _ => Cert.KMemIdeal.Gen.frame m ρ, quiescent_RMemIdeal,
  quiescent_KExp, quiescent_KExpIdeal, quiescent_RExpIdeal,
  (trivial : preserves_Kernel_KernelIdeal), algebraic_KernelIdeal_ReferenceIdeal,
  (trivial : preserves_KProj_KProjIdeal), algebraic_KProjIdeal_RProjIdeal,
  (trivial : preserves_KMem_KMemIdeal), algebraic_KMemIdeal_RMemIdeal,
  (trivial : preserves_KExp_KExpIdeal), algebraic_KExpIdeal_RExpIdeal⟩

end Cert.Proof

end
